-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2x192x24x24 : Shape := ⟨5, ![4, 2, 192, 24, 24]⟩
abbrev S_ : Shape := ⟨0, ![]⟩

class Facts : Prop where
  bcast_S_S4x2x192x24x24 : S_.BroadcastsInDim S4x2x192x24x24 (![] : Fin 0 → Fin S4x2x192x24x24.rank)

variable [Facts]

def fn {F : FTy → Type} [FloatOps F] (main_arg0 : FVec F S4x2x192x24x24 .f32) (main_arg1 : FVec F S4x2x192x24x24 .f32) : IVec S4x2x192x24x24 1 :=
  let main_v0 : FVec F S4x2x192x24x24 .f32 := Host.absf main_arg0
  let main_cst : FVec F S_ .f32 := constant S_ .f32 0x7F800000#32
  let main_v1 : FVec F S4x2x192x24x24 .f32 := broadcastInDim S4x2x192x24x24 ![] bcast_S_S4x2x192x24x24 main_cst
  let main_v2 : IVec S4x2x192x24x24 1 := cmpf .olt main_v0 main_v1
  let main_v3 : FVec F S4x2x192x24x24 .f32 := Host.absf main_arg1
  let main_cst_0 : FVec F S_ .f32 := constant S_ .f32 0x7F800000#32
  let main_v4 : FVec F S4x2x192x24x24 .f32 := broadcastInDim S4x2x192x24x24 ![] bcast_S_S4x2x192x24x24 main_cst_0
  let main_v5 : IVec S4x2x192x24x24 1 := cmpf .olt main_v3 main_v4
  let main_v6 : IVec S4x2x192x24x24 1 := andi main_v2 main_v5
  main_v6
-- ==== Kernel.lean ====
abbrev S4x2x192x24x24 : Shape := ⟨5, ![4, 2, 192, 24, 24]⟩
abbrev S8x192x576 : Shape := ⟨3, ![8, 192, 576]⟩
abbrev S8x576x192 : Shape := ⟨3, ![8, 576, 192]⟩
abbrev S1x128 : Shape := ⟨2, ![1, 128]⟩
abbrev S8x576 : Shape := ⟨2, ![8, 576]⟩
abbrev S1x576x192 : Shape := ⟨3, ![1, 576, 192]⟩
abbrev S576x192 : Shape := ⟨2, ![576, 192]⟩
abbrev S1x576 : Shape := ⟨2, ![1, 576]⟩
abbrev S576 : Shape := ⟨1, ![576]⟩
abbrev S576x1 : Shape := ⟨2, ![576, 1]⟩
abbrev S576x576 : Shape := ⟨2, ![576, 576]⟩
abbrev S1x576x1 : Shape := ⟨3, ![1, 576, 1]⟩
abbrev S1 : Shape := ⟨1, ![1]⟩
abbrev S1x1x1 : Shape := ⟨3, ![1, 1, 1]⟩
abbrev S1x1x576 : Shape := ⟨3, ![1, 1, 576]⟩
abbrev S1x1 : Shape := ⟨2, ![1, 1]⟩
abbrev S1x3 : Shape := ⟨2, ![1, 3]⟩
abbrev S3 : Shape := ⟨1, ![3]⟩

abbrev nBuf : Space → Nat
  | .hbm => 9
  | .vmem => 5
  | .smem => 0
  | _ => 0

abbrev bufTy : (tb : Table) → Fin (tcTables nBuf tb) → BufTy
  | .hbm, ⟨0, _⟩ => ⟨S4x2x192x24x24, .f32⟩
  | .hbm, ⟨1, _⟩ => ⟨S4x2x192x24x24, .f32⟩
  | .hbm, ⟨2, _⟩ => ⟨S8x192x576, .f32⟩
  | .hbm, ⟨3, _⟩ => ⟨S8x576x192, .f32⟩
  | .hbm, ⟨4, _⟩ => ⟨S8x192x576, .f32⟩
  | .hbm, ⟨5, _⟩ => ⟨S8x576x192, .f32⟩
  | .hbm, ⟨6, _⟩ => ⟨S1x128, .f32⟩
  | .hbm, ⟨7, _⟩ => ⟨S1x3, .f32⟩
  | .hbm, ⟨8, _⟩ => ⟨S3, .f32⟩
  | .local _ .vmem, ⟨0, _⟩ => ⟨S8x576x192, .f32⟩
  | .local _ .vmem, ⟨1, _⟩ => ⟨S8x576x192, .f32⟩
  | .local _ .vmem, ⟨2, _⟩ => ⟨S1x128, .f32⟩
  | .local _ .vmem, ⟨3, _⟩ => ⟨S8x576x192, .f32⟩
  | .local _ .vmem, ⟨4, _⟩ => ⟨S8x576x192, .f32⟩
  | _, _ => ⟨S4x2x192x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x576x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x576x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2x192x24x24 : Shape := ⟨5, ![4, 2, 192, 24, 24]⟩
abbrev S8x192x576 : Shape := ⟨3, ![8, 192, 576]⟩
abbrev S8x576x192 : Shape := ⟨3, ![8, 576, 192]⟩
abbrev S_ : Shape := ⟨0, ![]⟩
abbrev S8x576 : Shape := ⟨2, ![8, 576]⟩
abbrev S8x576x1 : Shape := ⟨3, ![8, 576, 1]⟩
abbrev S8x1x576 : Shape := ⟨3, ![8, 1, 576]⟩
abbrev S8x576x576 : Shape := ⟨3, ![8, 576, 576]⟩
abbrev S8x576x192x1 : Shape := ⟨4, ![8, 576, 192, 1]⟩
abbrev S1 : Shape := ⟨1, ![1]⟩
abbrev S1x1x1x1 : Shape := ⟨4, ![1, 1, 1, 1]⟩
abbrev S576x192 : Shape := ⟨2, ![576, 192]⟩
abbrev S1x576x192 : Shape := ⟨3, ![1, 576, 192]⟩
abbrev S576x8x192 : Shape := ⟨3, ![576, 8, 192]⟩
abbrev S576x1x192 : Shape := ⟨3, ![576, 1, 192]⟩
abbrev S576x192x192 : Shape := ⟨3, ![576, 192, 192]⟩
abbrev S576 : Shape := ⟨1, ![576]⟩
abbrev S192 : Shape := ⟨1, ![192]⟩
abbrev S192x1 : Shape := ⟨2, ![192, 1]⟩
abbrev S192x2 : Shape := ⟨2, ![192, 2]⟩
abbrev S3 : Shape := ⟨1, ![3]⟩

abbrev nBuf : Space → Nat
  | .hbm => 523
  | .vmem => 0
  | .smem => 0
  | _ => 0

abbrev hbmTy0_0 (i : Nat) : BufTy := match i % 128 with
  | 0 => ⟨S4x2x192x24x24, .f32⟩
  | 1 => ⟨S4x2x192x24x24, .f32⟩
  | 2 => ⟨S8x192x576, .f32⟩
  | 3 => ⟨S8x576x192, .f32⟩
  | 4 => ⟨S8x192x576, .f32⟩
  | 5 => ⟨S8x576x192, .f32⟩
  | 6 => ⟨S8x576x192, .f32⟩
  | 7 => ⟨S_, .f32⟩
  | 8 => ⟨S8x576, .f32⟩
  | 9 => ⟨S8x576x192, .f32⟩
  | 10 => ⟨S_, .f32⟩
  | 11 => ⟨S8x576, .f32⟩
  | 12 => ⟨S8x576x1, .f32⟩
  | 13 => ⟨S8x1x576, .f32⟩
  | 14 => ⟨S8x576x576, .f32⟩
  | 15 => ⟨S8x576x576, .f32⟩
  | 16 => ⟨S8x576x576, .f32⟩
  | 17 => ⟨S8x576x576, .f32⟩
  | 18 => ⟨S_, .f32⟩
  | 19 => ⟨S8x576x576, .f32⟩
  | 20 => ⟨S8x576x576, .f32⟩
  | 21 => ⟨S8x576x576, .f32⟩
  | 22 => ⟨S8x576x576, .i32⟩
  | 23 => ⟨S_, .f32⟩
  | 24 => ⟨S_, .i32⟩
  | 25 => ⟨S8x576, .f32⟩
  | 26 => ⟨S8x576, .i32⟩
  | 27 => ⟨S8x576x1, .i32⟩
  | 28 => ⟨S8x576x192, .i32⟩
  | 29 => ⟨S_, .i32⟩
  | 30 => ⟨S8x576x192, .i32⟩
  | 31 => ⟨S8x576x192, .i1⟩
  | 32 => ⟨S_, .i32⟩
  | 33 => ⟨S8x576x192, .i32⟩
  | 34 => ⟨S8x576x192, .i32⟩
  | 35 => ⟨S8x576x192, .i32⟩
  | 36 => ⟨S8x576x192x1, .i32⟩
  | 37 => ⟨S1, .i32⟩
  | 38 => ⟨S_, .i32⟩
  | 39 => ⟨S8x576x192x1, .i32⟩
  | 40 => ⟨S8x576x192x1, .i1⟩
  | 41 => ⟨S1x1x1x1, .i32⟩
  | 42 => ⟨S8x576x192x1, .i32⟩
  | 43 => ⟨S8x576x192x1, .i1⟩
  | 44 => ⟨S8x576x192x1, .i1⟩
  | 45 => ⟨S_, .i1⟩
  | 46 => ⟨S8x576x192, .i1⟩
  | 47 => ⟨S8x576x192, .f32⟩
  | 48 => ⟨S_, .f32⟩
  | 49 => ⟨S8x576x192, .f32⟩
  | 50 => ⟨S8x576x192, .f32⟩
  | 51 => ⟨S8x576x192, .f32⟩
  | 52 => ⟨S_, .f32⟩
  | 53 => ⟨S8x576, .f32⟩
  | 54 => ⟨S8x576x192, .f32⟩
  | 55 => ⟨S_, .f32⟩
  | 56 => ⟨S8x576, .f32⟩
  | 57 => ⟨S8x576x1, .f32⟩
  | 58 => ⟨S8x1x576, .f32⟩
  | 59 => ⟨S8x576x576, .f32⟩
  | 60 => ⟨S8x576x576, .f32⟩
  | 61 => ⟨S8x576x576, .f32⟩
  | 62 => ⟨S8x576x576, .f32⟩
  | 63 => ⟨S_, .f32⟩
  | 64 => ⟨S8x576x576, .f32⟩
  | 65 => ⟨S8x576x576, .f32⟩
  | 66 => ⟨S8x576x576, .f32⟩
  | 67 => ⟨S8x576x576, .i32⟩
  | 68 => ⟨S_, .f32⟩
  | 69 => ⟨S_, .i32⟩
  | 70 => ⟨S8x576, .f32⟩
  | 71 => ⟨S8x576, .i32⟩
  | 72 => ⟨S8x576x1, .i32⟩
  | 73 => ⟨S8x576x192, .i32⟩
  | 74 => ⟨S_, .i32⟩
  | 75 => ⟨S8x576x192, .i32⟩
  | 76 => ⟨S8x576x192, .i1⟩
  | 77 => ⟨S_, .i32⟩
  | 78 => ⟨S8x576x192, .i32⟩
  | 79 => ⟨S8x576x192, .i32⟩
  | 80 => ⟨S8x576x192, .i32⟩
  | 81 => ⟨S8x576x192x1, .i32⟩
  | 82 => ⟨S1, .i32⟩
  | 83 => ⟨S_, .i32⟩
  | 84 => ⟨S8x576x192x1, .i32⟩
  | 85 => ⟨S8x576x192x1, .i1⟩
  | 86 => ⟨S1x1x1x1, .i32⟩
  | 87 => ⟨S8x576x192x1, .i32⟩
  | 88 => ⟨S8x576x192x1, .i1⟩
  | 89 => ⟨S8x576x192x1, .i1⟩
  | 90 => ⟨S_, .i1⟩
  | 91 => ⟨S8x576x192, .i1⟩
  | 92 => ⟨S8x576x192, .f32⟩
  | 93 => ⟨S_, .f32⟩
  | 94 => ⟨S8x576x192, .f32⟩
  | 95 => ⟨S8x576x192, .f32⟩
  | 96 => ⟨S8x576x192, .f32⟩
  | 97 => ⟨S8x576x192, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S576x192, .f32⟩
  | 106 => ⟨S_, .f32⟩
  | 107 => ⟨S576x192, .f32⟩
  | 108 => ⟨S576x192, .f32⟩
  | 109 => ⟨S1x576x192, .f32⟩
  | 110 => ⟨S8x576x192, .f32⟩
  | 111 => ⟨S8x576x192, .f32⟩
  | 112 => ⟨S_, .f32⟩
  | 113 => ⟨S576x192, .f32⟩
  | 114 => ⟨S_, .f32⟩
  | 115 => ⟨S576x192, .f32⟩
  | 116 => ⟨S576x192, .f32⟩
  | 117 => ⟨S1x576x192, .f32⟩
  | 118 => ⟨S8x576x192, .f32⟩
  | 119 => ⟨S8x576x192, .f32⟩
  | 120 => ⟨S_, .i32⟩
  | 121 => ⟨S_, .f32⟩
  | 122 => ⟨S576x192, .f32⟩
  | 123 => ⟨S1x576x192, .f32⟩
  | 124 => ⟨S_, .f32⟩
  | 125 => ⟨S1x576x192, .f32⟩
  | 126 => ⟨S1x576x192, .f32⟩
  | 127 => ⟨S8x576x192, .f32⟩
  | _ => ⟨S4x2x192x24x24, .f32⟩

abbrev hbmTy0_1 (i : Nat) : BufTy := match i % 128 with
  | 0 => ⟨S8x576x192, .f32⟩
  | 1 => ⟨S8x576x192, .f32⟩
  | 2 => ⟨S_, .f32⟩
  | 3 => ⟨S_, .f32⟩
  | 4 => ⟨S_, .f32⟩
  | 5 => ⟨S_, .f32⟩
  | 6 => ⟨S576x192, .f32⟩
  | 7 => ⟨S576x192, .f32⟩
  | 8 => ⟨S576x192, .f32⟩
  | 9 => ⟨S_, .f32⟩
  | 10 => ⟨S_, .i1⟩
  | 11 => ⟨S_, .f32⟩
  | 12 => ⟨S_, .f32⟩
  | 13 => ⟨S576x192, .f32⟩
  | 14 => ⟨S576x192, .f32⟩
  | 15 => ⟨S_, .f32⟩
  | 16 => ⟨S576x192, .f32⟩
  | 17 => ⟨S576x192, .f32⟩
  | 18 => ⟨S576x192, .f32⟩
  | 19 => ⟨S_, .i32⟩
  | 20 => ⟨S_, .f32⟩
  | 21 => ⟨S576x192, .f32⟩
  | 22 => ⟨S1x576x192, .f32⟩
  | 23 => ⟨S_, .f32⟩
  | 24 => ⟨S1x576x192, .f32⟩
  | 25 => ⟨S1x576x192, .f32⟩
  | 26 => ⟨S8x576x192, .f32⟩
  | 27 => ⟨S8x576x192, .f32⟩
  | 28 => ⟨S8x576x192, .f32⟩
  | 29 => ⟨S_, .f32⟩
  | 30 => ⟨S_, .f32⟩
  | 31 => ⟨S_, .f32⟩
  | 32 => ⟨S_, .f32⟩
  | 33 => ⟨S576x192, .f32⟩
  | 34 => ⟨S576x192, .f32⟩
  | 35 => ⟨S576x192, .f32⟩
  | 36 => ⟨S_, .f32⟩
  | 37 => ⟨S_, .i1⟩
  | 38 => ⟨S_, .f32⟩
  | 39 => ⟨S_, .f32⟩
  | 40 => ⟨S576x192, .f32⟩
  | 41 => ⟨S576x192, .f32⟩
  | 42 => ⟨S_, .f32⟩
  | 43 => ⟨S576x192, .f32⟩
  | 44 => ⟨S576x192, .f32⟩
  | 45 => ⟨S576x192, .f32⟩
  | 46 => ⟨S_, .f32⟩
  | 47 => ⟨S576x192, .f32⟩
  | 48 => ⟨S576x192, .f32⟩
  | 49 => ⟨S_, .f32⟩
  | 50 => ⟨S576x192, .f32⟩
  | 51 => ⟨S576x192, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S576x192, .f32⟩
  | 60 => ⟨S576x192, .f32⟩
  | 61 => ⟨S_, .f32⟩
  | 62 => ⟨S576x192, .f32⟩
  | 63 => ⟨S576x192, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S576x8x192, .f32⟩
  | 74 => ⟨S576x8x192, .f32⟩
  | 75 => ⟨S_, .f32⟩
  | 76 => ⟨S576x192, .f32⟩
  | 77 => ⟨S576x1x192, .f32⟩
  | 78 => ⟨S_, .f32⟩
  | 79 => ⟨S576x1x192, .f32⟩
  | 80 => ⟨S576x1x192, .f32⟩
  | 81 => ⟨S576x8x192, .f32⟩
  | 82 => ⟨S576x8x192, .f32⟩
  | 83 => ⟨S_, .f32⟩
  | 84 => ⟨S576x192, .f32⟩
  | 85 => ⟨S576x1x192, .f32⟩
  | 86 => ⟨S_, .f32⟩
  | 87 => ⟨S576x1x192, .f32⟩
  | 88 => ⟨S576x1x192, .f32⟩
  | 89 => ⟨S576x8x192, .f32⟩
  | 90 => ⟨S576x8x192, .f32⟩
  | 91 => ⟨S576x192x192, .f32⟩
  | 92 => ⟨S_, .f32⟩
  | 93 => ⟨S576x192x192, .f32⟩
  | 94 => ⟨S576x192x192, .f32⟩
  | 95 => ⟨S576x192x192, .f32⟩
  | 96 => ⟨S_, .f32⟩
  | 97 => ⟨S576x192x192, .f32⟩
  | 98 => ⟨S576x192x192, .f32⟩
  | 99 => ⟨S576x192x192, .f32⟩
  | 100 => ⟨S_, .f32⟩
  | 101 => ⟨S576, .f32⟩
  | 102 => ⟨S192, .i32⟩
  | 103 => ⟨S192, .i32⟩
  | 104 => ⟨S_, .i32⟩
  | 105 => ⟨S192, .i32⟩
  | 106 => ⟨S192, .i1⟩
  | 107 => ⟨S_, .i32⟩
  | 108 => ⟨S192, .i32⟩
  | 109 => ⟨S192, .i32⟩
  | 110 => ⟨S192, .i32⟩
  | 111 => ⟨S_, .i32⟩
  | 112 => ⟨S192, .i32⟩
  | 113 => ⟨S192, .i1⟩
  | 114 => ⟨S_, .i32⟩
  | 115 => ⟨S192, .i32⟩
  | 116 => ⟨S192, .i32⟩
  | 117 => ⟨S192, .i32⟩
  | 118 => ⟨S192x1, .i32⟩
  | 119 => ⟨S192x1, .i32⟩
  | 120 => ⟨S192x2, .i32⟩
  | 121 => ⟨S576x192, .f32⟩
  | 122 => ⟨S576x192, .f32⟩
  | 123 => ⟨S_, .f32⟩
  | 124 => ⟨S576, .f32⟩
  | 125 => ⟨S576, .f32⟩
  | 126 => ⟨S_, .f32⟩
  | 127 => ⟨S576, .f32⟩
  | _ => ⟨S4x2x192x24x24, .f32⟩

abbrev hbmTy0_2 (i : Nat) : BufTy := match i % 128 with
  | 0 => ⟨S576, .f32⟩
  | 1 => ⟨S_, .f32⟩
  | 2 => ⟨S576, .f32⟩
  | 3 => ⟨S576, .f32⟩
  | 4 => ⟨S576x192x192, .f32⟩
  | 5 => ⟨S_, .f32⟩
  | 6 => ⟨S576, .f32⟩
  | 7 => ⟨S192, .i32⟩
  | 8 => ⟨S192, .i32⟩
  | 9 => ⟨S_, .i32⟩
  | 10 => ⟨S192, .i32⟩
  | 11 => ⟨S192, .i1⟩
  | 12 => ⟨S_, .i32⟩
  | 13 => ⟨S192, .i32⟩
  | 14 => ⟨S192, .i32⟩
  | 15 => ⟨S192, .i32⟩
  | 16 => ⟨S_, .i32⟩
  | 17 => ⟨S192, .i32⟩
  | 18 => ⟨S192, .i1⟩
  | 19 => ⟨S_, .i32⟩
  | 20 => ⟨S192, .i32⟩
  | 21 => ⟨S192, .i32⟩
  | 22 => ⟨S192, .i32⟩
  | 23 => ⟨S192x1, .i32⟩
  | 24 => ⟨S192x1, .i32⟩
  | 25 => ⟨S192x2, .i32⟩
  | 26 => ⟨S576x192, .f32⟩
  | 27 => ⟨S576x192, .f32⟩
  | 28 => ⟨S_, .f32⟩
  | 29 => ⟨S576, .f32⟩
  | 30 => ⟨S576, .f32⟩
  | 31 => ⟨S_, .f32⟩
  | 32 => ⟨S576, .f32⟩
  | 33 => ⟨S576, .f32⟩
  | 34 => ⟨S_, .f32⟩
  | 35 => ⟨S576, .f32⟩
  | 36 => ⟨S576, .f32⟩
  | 37 => ⟨S576, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S8x576x192, .f32⟩
  | 45 => ⟨S8x576x192, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S576x192, .f32⟩
  | 54 => ⟨S_, .f32⟩
  | 55 => ⟨S576x192, .f32⟩
  | 56 => ⟨S576x192, .f32⟩
  | 57 => ⟨S1x576x192, .f32⟩
  | 58 => ⟨S8x576x192, .f32⟩
  | 59 => ⟨S8x576x192, .f32⟩
  | 60 => ⟨S_, .f32⟩
  | 61 => ⟨S576x192, .f32⟩
  | 62 => ⟨S_, .f32⟩
  | 63 => ⟨S576x192, .f32⟩
  | 64 => ⟨S576x192, .f32⟩
  | 65 => ⟨S1x576x192, .f32⟩
  | 66 => ⟨S8x576x192, .f32⟩
  | 67 => ⟨S8x576x192, .f32⟩
  | 68 => ⟨S_, .i32⟩
  | 69 => ⟨S_, .f32⟩
  | 70 => ⟨S576x192, .f32⟩
  | 71 => ⟨S1x576x192, .f32⟩
  | 72 => ⟨S_, .f32⟩
  | 73 => ⟨S1x576x192, .f32⟩
  | 74 => ⟨S1x576x192, .f32⟩
  | 75 => ⟨S8x576x192, .f32⟩
  | 76 => ⟨S8x576x192, .f32⟩
  | 77 => ⟨S8x576x192, .f32⟩
  | 78 => ⟨S_, .f32⟩
  | 79 => ⟨S_, .f32⟩
  | 80 => ⟨S_, .f32⟩
  | 81 => ⟨S_, .f32⟩
  | 82 => ⟨S576x192, .f32⟩
  | 83 => ⟨S576x192, .f32⟩
  | 84 => ⟨S576x192, .f32⟩
  | 85 => ⟨S_, .f32⟩
  | 86 => ⟨S_, .i1⟩
  | 87 => ⟨S_, .f32⟩
  | 88 => ⟨S_, .f32⟩
  | 89 => ⟨S576x192, .f32⟩
  | 90 => ⟨S576x192, .f32⟩
  | 91 => ⟨S_, .f32⟩
  | 92 => ⟨S576x192, .f32⟩
  | 93 => ⟨S576x192, .f32⟩
  | 94 => ⟨S576x192, .f32⟩
  | 95 => ⟨S_, .i32⟩
  | 96 => ⟨S_, .f32⟩
  | 97 => ⟨S576x192, .f32⟩
  | 98 => ⟨S1x576x192, .f32⟩
  | 99 => ⟨S_, .f32⟩
  | 100 => ⟨S1x576x192, .f32⟩
  | 101 => ⟨S1x576x192, .f32⟩
  | 102 => ⟨S8x576x192, .f32⟩
  | 103 => ⟨S8x576x192, .f32⟩
  | 104 => ⟨S8x576x192, .f32⟩
  | 105 => ⟨S_, .f32⟩
  | 106 => ⟨S_, .f32⟩
  | 107 => ⟨S_, .f32⟩
  | 108 => ⟨S_, .f32⟩
  | 109 => ⟨S576x192, .f32⟩
  | 110 => ⟨S576x192, .f32⟩
  | 111 => ⟨S576x192, .f32⟩
  | 112 => ⟨S_, .f32⟩
  | 113 => ⟨S_, .i1⟩
  | 114 => ⟨S_, .f32⟩
  | 115 => ⟨S_, .f32⟩
  | 116 => ⟨S576x192, .f32⟩
  | 117 => ⟨S576x192, .f32⟩
  | 118 => ⟨S_, .f32⟩
  | 119 => ⟨S576x192, .f32⟩
  | 120 => ⟨S576x192, .f32⟩
  | 121 => ⟨S576x192, .f32⟩
  | 122 => ⟨S_, .f32⟩
  | 123 => ⟨S576x192, .f32⟩
  | 124 => ⟨S576x192, .f32⟩
  | 125 => ⟨S_, .f32⟩
  | 126 => ⟨S576x192, .f32⟩
  | 127 => ⟨S576x192, .f32⟩
  | _ => ⟨S4x2x192x24x24, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S576x192, .f32⟩
  | 8 => ⟨S576x192, .f32⟩
  | 9 => ⟨S_, .f32⟩
  | 10 => ⟨S576x192, .f32⟩
  | 11 => ⟨S576x192, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S576x8x192, .f32⟩
  | 22 => ⟨S576x8x192, .f32⟩
  | 23 => ⟨S_, .f32⟩
  | 24 => ⟨S576x192, .f32⟩
  | 25 => ⟨S576x1x192, .f32⟩
  | 26 => ⟨S_, .f32⟩
  | 27 => ⟨S576x1x192, .f32⟩
  | 28 => ⟨S576x1x192, .f32⟩
  | 29 => ⟨S576x8x192, .f32⟩
  | 30 => ⟨S576x8x192, .f32⟩
  | 31 => ⟨S_, .f32⟩
  | 32 => ⟨S576x192, .f32⟩
  | 33 => ⟨S576x1x192, .f32⟩
  | 34 => ⟨S_, .f32⟩
  | 35 => ⟨S576x1x192, .f32⟩
  | 36 => ⟨S576x1x192, .f32⟩
  | 37 => ⟨S576x8x192, .f32⟩
  | 38 => ⟨S576x8x192, .f32⟩
  | 39 => ⟨S576x192x192, .f32⟩
  | 40 => ⟨S_, .f32⟩
  | 41 => ⟨S576x192x192, .f32⟩
  | 42 => ⟨S576x192x192, .f32⟩
  | 43 => ⟨S576x192x192, .f32⟩
  | 44 => ⟨S_, .f32⟩
  | 45 => ⟨S576x192x192, .f32⟩
  | 46 => ⟨S576x192x192, .f32⟩
  | 47 => ⟨S576x192x192, .f32⟩
  | 48 => ⟨S_, .f32⟩
  | 49 => ⟨S576, .f32⟩
  | 50 => ⟨S192, .i32⟩
  | 51 => ⟨S192, .i32⟩
  | 52 => ⟨S_, .i32⟩
  | 53 => ⟨S192, .i32⟩
  | 54 => ⟨S192, .i1⟩
  | 55 => ⟨S_, .i32⟩
  | 56 => ⟨S192, .i32⟩
  | 57 => ⟨S192, .i32⟩
  | 58 => ⟨S192, .i32⟩
  | 59 => ⟨S_, .i32⟩
  | 60 => ⟨S192, .i32⟩
  | 61 => ⟨S192, .i1⟩
  | 62 => ⟨S_, .i32⟩
  | 63 => ⟨S192, .i32⟩
  | 64 => ⟨S192, .i32⟩
  | 65 => ⟨S192, .i32⟩
  | 66 => ⟨S192x1, .i32⟩
  | 67 => ⟨S192x1, .i32⟩
  | 68 => ⟨S192x2, .i32⟩
  | 69 => ⟨S576x192, .f32⟩
  | 70 => ⟨S576x192, .f32⟩
  | 71 => ⟨S_, .f32⟩
  | 72 => ⟨S576, .f32⟩
  | 73 => ⟨S576, .f32⟩
  | 74 => ⟨S_, .f32⟩
  | 75 => ⟨S576, .f32⟩
  | 76 => ⟨S576, .f32⟩
  | 77 => ⟨S_, .f32⟩
  | 78 => ⟨S576, .f32⟩
  | 79 => ⟨S576, .f32⟩
  | 80 => ⟨S576x192x192, .f32⟩
  | 81 => ⟨S_, .f32⟩
  | 82 => ⟨S576, .f32⟩
  | 83 => ⟨S192, .i32⟩
  | 84 => ⟨S192, .i32⟩
  | 85 => ⟨S_, .i32⟩
  | 86 => ⟨S192, .i32⟩
  | 87 => ⟨S192, .i1⟩
  | 88 => ⟨S_, .i32⟩
  | 89 => ⟨S192, .i32⟩
  | 90 => ⟨S192, .i32⟩
  | 91 => ⟨S192, .i32⟩
  | 92 => ⟨S_, .i32⟩
  | 93 => ⟨S192, .i32⟩
  | 94 => ⟨S192, .i1⟩
  | 95 => ⟨S_, .i32⟩
  | 96 => ⟨S192, .i32⟩
  | 97 => ⟨S192, .i32⟩
  | 98 => ⟨S192, .i32⟩
  | 99 => ⟨S192x1, .i32⟩
  | 100 => ⟨S192x1, .i32⟩
  | 101 => ⟨S192x2, .i32⟩
  | 102 => ⟨S576x192, .f32⟩
  | 103 => ⟨S576x192, .f32⟩
  | 104 => ⟨S_, .f32⟩
  | 105 => ⟨S576, .f32⟩
  | 106 => ⟨S576, .f32⟩
  | 107 => ⟨S_, .f32⟩
  | 108 => ⟨S576, .f32⟩
  | 109 => ⟨S576, .f32⟩
  | 110 => ⟨S_, .f32⟩
  | 111 => ⟨S576, .f32⟩
  | 112 => ⟨S576, .f32⟩
  | 113 => ⟨S576, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x2x192x24x24, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S1, .f32⟩
  | 8 => ⟨S1, .f32⟩
  | 9 => ⟨S1, .f32⟩
  | 10 => ⟨S3, .f32⟩
  | _ => ⟨S4x2x192x24x24, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x2x192x24x24, .f32⟩

abbrev bufTy : (tb : Table) → Fin (tcTables nBuf tb) → BufTy
  | .hbm, ⟨i, _⟩ => hbmTy i
  | _, _ => ⟨S4x2x192x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v20 : Ref sig .tc := ⟨.hbm, 50, rfl⟩
abbrev main_v21 : Ref sig .tc := ⟨.hbm, 51, rfl⟩
abbrev main_cst_2 : Ref sig .tc := ⟨.hbm, 52, rfl⟩
abbrev main_v22 : Ref sig .tc := ⟨.hbm, 53, rfl⟩
abbrev main_v23 : Ref sig .tc := ⟨.hbm, 54, rfl⟩
abbrev main_cst_3 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_4 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_call2_v0 : Ref sig .tc := ⟨.hbm, 67, rfl⟩
abbrev main_call2_cst : Ref sig .tc := ⟨.hbm, 68, rfl⟩
abbrev main_call2_c : Ref sig .tc := ⟨.hbm, 69, rfl⟩
abbrev main_call2_v1_0 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_cst : Ref sig .tc := ⟨.hbm, 93, rfl⟩
abbrev main_call3_v14 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_cst_5 : Ref sig .tc := ⟨.hbm, 98, rfl⟩
abbrev main_v40 : Ref sig .tc := ⟨.hbm, 99, rfl⟩
abbrev main_cst_6 : Ref sig .tc := ⟨.hbm, 100, rfl⟩
abbrev main_v41 : Ref sig .tc := ⟨.hbm, 101, rfl⟩
abbrev main_cst_7 : Ref sig .tc := ⟨.hbm, 102, rfl⟩
abbrev main_v42 : Ref sig .tc := ⟨.hbm, 103, rfl⟩
abbrev main_cst_8 : Ref sig .tc := ⟨.hbm, 104, rfl⟩
abbrev main_v43 : Ref sig .tc := ⟨.hbm, 105, rfl⟩
abbrev main_cst_9 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_cst_10 : Ref sig .tc := ⟨.hbm, 112, rfl⟩
abbrev main_v49 : Ref sig .tc := ⟨.hbm, 113, rfl⟩
abbrev main_cst_11 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_c : Ref sig .tc := ⟨.hbm, 120, rfl⟩
abbrev main_call4_cst : Ref sig .tc := ⟨.hbm, 121, rfl⟩
abbrev main_call4_v0 : Ref sig .tc := ⟨.hbm, 122, rfl⟩
abbrev main_call4_v1 : Ref sig .tc := ⟨.hbm, 123, rfl⟩
abbrev main_call4_cst_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_v6 : Ref sig .tc := ⟨.hbm, 129, rfl⟩
abbrev main_call4_v7 : Ref sig .tc := ⟨.hbm, 130, rfl⟩
abbrev main_call4_cst_1 : Ref sig .tc := ⟨.hbm, 131, rfl⟩
abbrev main_call4_v8 : Ref sig .tc := ⟨.hbm, 132, rfl⟩
abbrev main_call4_cst_2 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_cst_3 : Ref sig .tc := ⟨.hbm, 137, rfl⟩
abbrev main_call4_v12 : Ref sig .tc := ⟨.hbm, 138, rfl⟩
abbrev main_call4_cst_4 : Ref sig .tc := ⟨.hbm, 139, rfl⟩
abbrev main_call4_call0_v0 : Ref sig .tc := ⟨.hbm, 140, rfl⟩
abbrev main_call4_call0_v1 : Ref sig .tc := ⟨.hbm, 141, rfl⟩
abbrev main_v55 : Ref sig .tc := ⟨.hbm, 142, rfl⟩
abbrev main_cst_12 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_c_13 : Ref sig .tc := ⟨.hbm, 147, rfl⟩
abbrev main_call5_cst : Ref sig .tc := ⟨.hbm, 148, rfl⟩
abbrev main_call5_v0 : Ref sig .tc := ⟨.hbm, 149, rfl⟩
abbrev main_call5_v1 : Ref sig .tc := ⟨.hbm, 150, rfl⟩
abbrev main_call5_cst_0 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_call5_v5 : Ref sig .tc := ⟨.hbm, 155, rfl⟩
abbrev main_call5_v6 : Ref sig .tc := ⟨.hbm, 156, rfl⟩
abbrev main_call5_v7 : Ref sig .tc := ⟨.hbm, 157, rfl⟩
abbrev main_call5_cst_1 : Ref sig .tc := ⟨.hbm, 158, rfl⟩
abbrev main_call5_v8 : Ref sig .tc := ⟨.hbm, 159, rfl⟩
abbrev main_call5_cst_2 : Ref sig .tc := ⟨.hbm, 160, rfl⟩
abbrev main_call5_v9 : Ref sig .tc := ⟨.hbm, 161, rfl⟩
abbrev main_call5_v10 : Ref sig .tc := ⟨.hbm, 162, rfl⟩
abbrev main_call5_v11 : Ref sig .tc := ⟨.hbm, 163, rfl⟩
abbrev main_call5_cst_3 : Ref sig .tc := ⟨.hbm, 164, rfl⟩
abbrev main_call5_v12 : Ref sig .tc := ⟨.hbm, 165, rfl⟩
abbrev main_call5_cst_4 : Ref sig .tc := ⟨.hbm, 166, rfl⟩
abbrev main_call5_call0_v0 : Ref sig .tc := ⟨.hbm, 167, rfl⟩
abbrev main_call5_call0_v1 : Ref sig .tc := ⟨.hbm, 168, rfl⟩
abbrev main_v59 : Ref sig .tc := ⟨.hbm, 169, rfl⟩
abbrev main_cst_14 : Ref sig .tc := ⟨.hbm, 170, rfl⟩
abbrev main_v60 : Ref sig .tc := ⟨.hbm, 171, rfl⟩
abbrev main_v61 : Ref sig .tc := ⟨.hbm, 172, rfl⟩
abbrev main_v62 : Ref sig .tc := ⟨.hbm, 173, rfl⟩
abbrev main_cst_15 : Ref sig .tc := ⟨.hbm, 174, rfl⟩
abbrev main_v63 : Ref sig .tc := ⟨.hbm, 175, rfl⟩
abbrev main_v64 : Ref sig .tc := ⟨.hbm, 176, rfl⟩
abbrev main_call6_cst : Ref sig .tc := ⟨.hbm, 177, rfl⟩
abbrev main_call6_v0 : Ref sig .tc := ⟨.hbm, 178, rfl⟩
abbrev main_v65 : Ref sig .tc := ⟨.hbm, 179, rfl⟩
abbrev main_cst_16 : Ref sig .tc := ⟨.hbm, 180, rfl⟩
abbrev main_v66 : Ref sig .tc := ⟨.hbm, 181, rfl⟩
abbrev main_cst_17 : Ref sig .tc := ⟨.hbm, 182, rfl⟩
abbrev main_v67 : Ref sig .tc := ⟨.hbm, 183, rfl⟩
abbrev main_cst_18 : Ref sig .tc := ⟨.hbm, 184, rfl⟩
abbrev main_v68 : Ref sig .tc := ⟨.hbm, 185, rfl⟩
abbrev main_cst_19 : Ref sig .tc := ⟨.hbm, 186, rfl⟩
abbrev main_v69 : Ref sig .tc := ⟨.hbm, 187, rfl⟩
abbrev main_v70 : Ref sig .tc := ⟨.hbm, 188, rfl⟩
abbrev main_call7_cst : Ref sig .tc := ⟨.hbm, 189, rfl⟩
abbrev main_call7_v0 : Ref sig .tc := ⟨.hbm, 190, rfl⟩
abbrev main_v71 : Ref sig .tc := ⟨.hbm, 191, rfl⟩
abbrev main_cst_20 : Ref sig .tc := ⟨.hbm, 192, rfl⟩
abbrev main_v72 : Ref sig .tc := ⟨.hbm, 193, rfl⟩
abbrev main_cst_21 : Ref sig .tc := ⟨.hbm, 194, rfl⟩
abbrev main_v73 : Ref sig .tc := ⟨.hbm, 195, rfl⟩
abbrev main_cst_22 : Ref sig .tc := ⟨.hbm, 196, rfl⟩
abbrev main_v74 : Ref sig .tc := ⟨.hbm, 197, rfl⟩
abbrev main_v75 : Ref sig .tc := ⟨.hbm, 198, rfl⟩
abbrev main_cst_23 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_cst_24 : Ref sig .tc := ⟨.hbm, 203, rfl⟩
abbrev main_v79 : Ref sig .tc := ⟨.hbm, 204, rfl⟩
abbrev main_v80 : Ref sig .tc := ⟨.hbm, 205, rfl⟩
abbrev main_cst_25 : Ref sig .tc := ⟨.hbm, 206, rfl⟩
abbrev main_v81 : Ref sig .tc := ⟨.hbm, 207, rfl⟩
abbrev main_v82 : Ref sig .tc := ⟨.hbm, 208, rfl⟩
abbrev main_v83 : Ref sig .tc := ⟨.hbm, 209, rfl⟩
abbrev main_v84 : Ref sig .tc := ⟨.hbm, 210, rfl⟩
abbrev main_cst_26 : Ref sig .tc := ⟨.hbm, 211, rfl⟩
abbrev main_v85 : Ref sig .tc := ⟨.hbm, 212, rfl⟩
abbrev main_v86 : Ref sig .tc := ⟨.hbm, 213, rfl⟩
abbrev main_cst_27 : Ref sig .tc := ⟨.hbm, 214, rfl⟩
abbrev main_v87 : Ref sig .tc := ⟨.hbm, 215, rfl⟩
abbrev main_v88 : Ref sig .tc := ⟨.hbm, 216, rfl⟩
abbrev main_v89 : Ref sig .tc := ⟨.hbm, 217, rfl⟩
abbrev main_v90 : Ref sig .tc := ⟨.hbm, 218, rfl⟩
abbrev main_v91 : Ref sig .tc := ⟨.hbm, 219, rfl⟩
abbrev main_cst_28 : Ref sig .tc := ⟨.hbm, 220, rfl⟩
abbrev main_v92 : Ref sig .tc := ⟨.hbm, 221, rfl⟩
abbrev main_v93 : Ref sig .tc := ⟨.hbm, 222, rfl⟩
abbrev main_v94 : Ref sig .tc := ⟨.hbm, 223, rfl⟩
abbrev main_cst_29 : Ref sig .tc := ⟨.hbm, 224, rfl⟩
abbrev main_v95 : Ref sig .tc := ⟨.hbm, 225, rfl⟩
abbrev main_v96 : Ref sig .tc := ⟨.hbm, 226, rfl⟩
abbrev main_v97 : Ref sig .tc := ⟨.hbm, 227, rfl⟩
abbrev main_cst_30 : Ref sig .tc := ⟨.hbm, 228, rfl⟩
abbrev main_v98 : Ref sig .tc := ⟨.hbm, 229, rfl⟩
abbrev main_call8_v0 : Ref sig .tc := ⟨.hbm, 230, rfl⟩
abbrev main_call8_v1 : Ref sig .tc := ⟨.hbm, 231, rfl⟩
abbrev main_call8_c : Ref sig .tc := ⟨.hbm, 232, rfl⟩
abbrev main_call8_v2 : Ref sig .tc := ⟨.hbm, 233, rfl⟩
abbrev main_call8_v3 : Ref sig .tc := ⟨.hbm, 234, rfl⟩
abbrev main_call8_c_0 : Ref sig .tc := ⟨.hbm, 235, rfl⟩
abbrev main_call8_v4 : Ref sig .tc := ⟨.hbm, 236, rfl⟩
abbrev main_call8_v5 : Ref sig .tc := ⟨.hbm, 237, rfl⟩
abbrev main_call8_v6 : Ref sig .tc := ⟨.hbm, 238, rfl⟩
abbrev main_call8_c_1 : Ref sig .tc := ⟨.hbm, 239, rfl⟩
abbrev main_call8_v7 : Ref sig .tc := ⟨.hbm, 240, rfl⟩
abbrev main_call8_v8 : Ref sig .tc := ⟨.hbm, 241, rfl⟩
abbrev main_call8_c_2 : Ref sig .tc := ⟨.hbm, 242, rfl⟩
abbrev main_call8_v9 : Ref sig .tc := ⟨.hbm, 243, rfl⟩
abbrev main_call8_v10 : Ref sig .tc := ⟨.hbm, 244, rfl⟩
abbrev main_call8_v11 : Ref sig .tc := ⟨.hbm, 245, rfl⟩
abbrev main_call8_v12 : Ref sig .tc := ⟨.hbm, 246, rfl⟩
abbrev main_call8_v13 : Ref sig .tc := ⟨.hbm, 247, rfl⟩
abbrev main_call8_v14 : Ref sig .tc := ⟨.hbm, 248, rfl⟩
abbrev main_v99 : Ref sig .tc := ⟨.hbm, 249, rfl⟩
abbrev main_v100 : Ref sig .tc := ⟨.hbm, 250, rfl⟩
abbrev main_cst_31 : Ref sig .tc := ⟨.hbm, 251, rfl⟩
abbrev main_v101 : Ref sig .tc := ⟨.hbm, 252, rfl⟩
abbrev main_v102 : Ref sig .tc := ⟨.hbm, 253, rfl⟩
abbrev main_cst_32 : Ref sig .tc := ⟨.hbm, 254, rfl⟩
abbrev main_v103 : Ref sig .tc := ⟨.hbm, 255, rfl⟩
abbrev main_v104 : Ref sig .tc := ⟨.hbm, 256, rfl⟩
abbrev main_cst_33 : Ref sig .tc := ⟨.hbm, 257, rfl⟩
abbrev main_v105 : Ref sig .tc := ⟨.hbm, 258, rfl⟩
abbrev main_v106 : Ref sig .tc := ⟨.hbm, 259, rfl⟩
abbrev main_v107 : Ref sig .tc := ⟨.hbm, 260, rfl⟩
abbrev main_cst_34 : Ref sig .tc := ⟨.hbm, 261, rfl⟩
abbrev main_v108 : Ref sig .tc := ⟨.hbm, 262, rfl⟩
abbrev main_call9_v0 : Ref sig .tc := ⟨.hbm, 263, rfl⟩
abbrev main_call9_v1 : Ref sig .tc := ⟨.hbm, 264, rfl⟩
abbrev main_call9_c : Ref sig .tc := ⟨.hbm, 265, rfl⟩
abbrev main_call9_v2 : Ref sig .tc := ⟨.hbm, 266, rfl⟩
abbrev main_call9_v3 : Ref sig .tc := ⟨.hbm, 267, rfl⟩
abbrev main_call9_c_0 : Ref sig .tc := ⟨.hbm, 268, rfl⟩
abbrev main_call9_v4 : Ref sig .tc := ⟨.hbm, 269, rfl⟩
abbrev main_call9_v5 : Ref sig .tc := ⟨.hbm, 270, rfl⟩
abbrev main_call9_v6 : Ref sig .tc := ⟨.hbm, 271, rfl⟩
abbrev main_call9_c_1 : Ref sig .tc := ⟨.hbm, 272, rfl⟩
abbrev main_call9_v7 : Ref sig .tc := ⟨.hbm, 273, rfl⟩
abbrev main_call9_v8 : Ref sig .tc := ⟨.hbm, 274, rfl⟩
abbrev main_call9_c_2 : Ref sig .tc := ⟨.hbm, 275, rfl⟩
abbrev main_call9_v9 : Ref sig .tc := ⟨.hbm, 276, rfl⟩
abbrev main_call9_v10 : Ref sig .tc := ⟨.hbm, 277, rfl⟩
abbrev main_call9_v11 : Ref sig .tc := ⟨.hbm, 278, rfl⟩
abbrev main_call9_v12 : Ref sig .tc := ⟨.hbm, 279, rfl⟩
abbrev main_call9_v13 : Ref sig .tc := ⟨.hbm, 280, rfl⟩
abbrev main_call9_v14 : Ref sig .tc := ⟨.hbm, 281, rfl⟩
abbrev main_v109 : Ref sig .tc := ⟨.hbm, 282, rfl⟩
abbrev main_v110 : Ref sig .tc := ⟨.hbm, 283, rfl⟩
abbrev main_cst_35 : Ref sig .tc := ⟨.hbm, 284, rfl⟩
abbrev main_v111 : Ref sig .tc := ⟨.hbm, 285, rfl⟩
abbrev main_v112 : Ref sig .tc := ⟨.hbm, 286, rfl⟩
abbrev main_cst_36 : Ref sig .tc := ⟨.hbm, 287, rfl⟩
abbrev main_v113 : Ref sig .tc := ⟨.hbm, 288, rfl⟩
abbrev main_v114 : Ref sig .tc := ⟨.hbm, 289, rfl⟩
abbrev main_cst_37 : Ref sig .tc := ⟨.hbm, 290, rfl⟩
abbrev main_v115 : Ref sig .tc := ⟨.hbm, 291, rfl⟩
abbrev main_v116 : Ref sig .tc := ⟨.hbm, 292, rfl⟩
abbrev main_v117 : Ref sig .tc := ⟨.hbm, 293, rfl⟩
abbrev main_cst_38 : Ref sig .tc := ⟨.hbm, 294, rfl⟩
abbrev main_v118 : Ref sig .tc := ⟨.hbm, 295, rfl⟩
abbrev main_cst_39 : Ref sig .tc := ⟨.hbm, 296, rfl⟩
abbrev main_v119 : Ref sig .tc := ⟨.hbm, 297, rfl⟩
abbrev main_cst_40 : Ref sig .tc := ⟨.hbm, 298, rfl⟩
abbrev main_v120 : Ref sig .tc := ⟨.hbm, 299, rfl⟩
abbrev main_v121 : Ref sig .tc := ⟨.hbm, 300, rfl⟩
abbrev main_v122 : Ref sig .tc := ⟨.hbm, 301, rfl⟩
abbrev main_cst_41 : Ref sig .tc := ⟨.hbm, 302, rfl⟩
abbrev main_v123 : Ref sig .tc := ⟨.hbm, 303, rfl⟩
abbrev main_cst_42 : Ref sig .tc := ⟨.hbm, 304, rfl⟩
abbrev main_v124 : Ref sig .tc := ⟨.hbm, 305, rfl⟩
abbrev main_cst_43 : Ref sig .tc := ⟨.hbm, 306, rfl⟩
abbrev main_v125 : Ref sig .tc := ⟨.hbm, 307, rfl⟩
abbrev main_cst_44 : Ref sig .tc := ⟨.hbm, 308, rfl⟩
abbrev main_v126 : Ref sig .tc := ⟨.hbm, 309, rfl⟩
abbrev main_cst_45 : Ref sig .tc := ⟨.hbm, 310, rfl⟩
abbrev main_v127 : Ref sig .tc := ⟨.hbm, 311, rfl⟩
abbrev main_v128 : Ref sig .tc := ⟨.hbm, 312, rfl⟩
abbrev main_v129 : Ref sig .tc := ⟨.hbm, 313, rfl⟩
abbrev main_v130 : Ref sig .tc := ⟨.hbm, 314, rfl⟩
abbrev main_v131 : Ref sig .tc := ⟨.hbm, 315, rfl⟩
abbrev main_cst_46 : Ref sig .tc := ⟨.hbm, 316, rfl⟩
abbrev main_v132 : Ref sig .tc := ⟨.hbm, 317, rfl⟩
abbrev main_cst_47 : Ref sig .tc := ⟨.hbm, 318, rfl⟩
abbrev main_v133 : Ref sig .tc := ⟨.hbm, 319, rfl⟩
abbrev main_v134 : Ref sig .tc := ⟨.hbm, 320, rfl⟩
abbrev main_v135 : Ref sig .tc := ⟨.hbm, 321, rfl⟩
abbrev main_v136 : Ref sig .tc := ⟨.hbm, 322, rfl⟩
abbrev main_v137 : Ref sig .tc := ⟨.hbm, 323, rfl⟩
abbrev main_c_48 : Ref sig .tc := ⟨.hbm, 324, rfl⟩
abbrev main_call10_cst : Ref sig .tc := ⟨.hbm, 325, rfl⟩
abbrev main_call10_v0 : Ref sig .tc := ⟨.hbm, 326, rfl⟩
abbrev main_call10_v1 : Ref sig .tc := ⟨.hbm, 327, rfl⟩
abbrev main_call10_cst_0 : Ref sig .tc := ⟨.hbm, 328, rfl⟩
abbrev main_call10_v2 : Ref sig .tc := ⟨.hbm, 329, rfl⟩
abbrev main_call10_v3 : Ref sig .tc := ⟨.hbm, 330, rfl⟩
abbrev main_call10_v4 : Ref sig .tc := ⟨.hbm, 331, rfl⟩
abbrev main_call10_v5 : Ref sig .tc := ⟨.hbm, 332, rfl⟩
abbrev main_call10_v6 : Ref sig .tc := ⟨.hbm, 333, rfl⟩
abbrev main_call10_v7 : Ref sig .tc := ⟨.hbm, 334, rfl⟩
abbrev main_call10_cst_1 : Ref sig .tc := ⟨.hbm, 335, rfl⟩
abbrev main_call10_v8 : Ref sig .tc := ⟨.hbm, 336, rfl⟩
abbrev main_call10_cst_2 : Ref sig .tc := ⟨.hbm, 337, rfl⟩
abbrev main_call10_v9 : Ref sig .tc := ⟨.hbm, 338, rfl⟩
abbrev main_call10_v10 : Ref sig .tc := ⟨.hbm, 339, rfl⟩
abbrev main_call10_v11 : Ref sig .tc := ⟨.hbm, 340, rfl⟩
abbrev main_call10_cst_3 : Ref sig .tc := ⟨.hbm, 341, rfl⟩
abbrev main_call10_v12 : Ref sig .tc := ⟨.hbm, 342, rfl⟩
abbrev main_call10_cst_4 : Ref sig .tc := ⟨.hbm, 343, rfl⟩
abbrev main_call10_call0_v0 : Ref sig .tc := ⟨.hbm, 344, rfl⟩
abbrev main_call10_call0_v1 : Ref sig .tc := ⟨.hbm, 345, rfl⟩
abbrev main_v138 : Ref sig .tc := ⟨.hbm, 346, rfl⟩
abbrev main_cst_49 : Ref sig .tc := ⟨.hbm, 347, rfl⟩
abbrev main_v139 : Ref sig .tc := ⟨.hbm, 348, rfl⟩
abbrev main_v140 : Ref sig .tc := ⟨.hbm, 349, rfl⟩
abbrev main_v141 : Ref sig .tc := ⟨.hbm, 350, rfl⟩
abbrev main_c_50 : Ref sig .tc := ⟨.hbm, 351, rfl⟩
abbrev main_call11_cst : Ref sig .tc := ⟨.hbm, 352, rfl⟩
abbrev main_call11_v0 : Ref sig .tc := ⟨.hbm, 353, rfl⟩
abbrev main_call11_v1 : Ref sig .tc := ⟨.hbm, 354, rfl⟩
abbrev main_call11_cst_0 : Ref sig .tc := ⟨.hbm, 355, rfl⟩
abbrev main_call11_v2 : Ref sig .tc := ⟨.hbm, 356, rfl⟩
abbrev main_call11_v3 : Ref sig .tc := ⟨.hbm, 357, rfl⟩
abbrev main_call11_v4 : Ref sig .tc := ⟨.hbm, 358, rfl⟩
abbrev main_call11_v5 : Ref sig .tc := ⟨.hbm, 359, rfl⟩
abbrev main_call11_v6 : Ref sig .tc := ⟨.hbm, 360, rfl⟩
abbrev main_call11_v7 : Ref sig .tc := ⟨.hbm, 361, rfl⟩
abbrev main_call11_cst_1 : Ref sig .tc := ⟨.hbm, 362, rfl⟩
abbrev main_call11_v8 : Ref sig .tc := ⟨.hbm, 363, rfl⟩
abbrev main_call11_cst_2 : Ref sig .tc := ⟨.hbm, 364, rfl⟩
abbrev main_call11_v9 : Ref sig .tc := ⟨.hbm, 365, rfl⟩
abbrev main_call11_v10 : Ref sig .tc := ⟨.hbm, 366, rfl⟩
abbrev main_call11_v11 : Ref sig .tc := ⟨.hbm, 367, rfl⟩
abbrev main_call11_cst_3 : Ref sig .tc := ⟨.hbm, 368, rfl⟩
abbrev main_call11_v12 : Ref sig .tc := ⟨.hbm, 369, rfl⟩
abbrev main_call11_cst_4 : Ref sig .tc := ⟨.hbm, 370, rfl⟩
abbrev main_call11_call0_v0 : Ref sig .tc := ⟨.hbm, 371, rfl⟩
abbrev main_call11_call0_v1 : Ref sig .tc := ⟨.hbm, 372, rfl⟩
abbrev main_v142 : Ref sig .tc := ⟨.hbm, 373, rfl⟩
abbrev main_cst_51 : Ref sig .tc := ⟨.hbm, 374, rfl⟩
abbrev main_v143 : Ref sig .tc := ⟨.hbm, 375, rfl⟩
abbrev main_v144 : Ref sig .tc := ⟨.hbm, 376, rfl⟩
abbrev main_v145 : Ref sig .tc := ⟨.hbm, 377, rfl⟩
abbrev main_cst_52 : Ref sig .tc := ⟨.hbm, 378, rfl⟩
abbrev main_v146 : Ref sig .tc := ⟨.hbm, 379, rfl⟩
abbrev main_v147 : Ref sig .tc := ⟨.hbm, 380, rfl⟩
abbrev main_call12_cst : Ref sig .tc := ⟨.hbm, 381, rfl⟩
abbrev main_call12_v0 : Ref sig .tc := ⟨.hbm, 382, rfl⟩
abbrev main_v148 : Ref sig .tc := ⟨.hbm, 383, rfl⟩
abbrev main_cst_53 : Ref sig .tc := ⟨.hbm, 384, rfl⟩
abbrev main_v149 : Ref sig .tc := ⟨.hbm, 385, rfl⟩
abbrev main_cst_54 : Ref sig .tc := ⟨.hbm, 386, rfl⟩
abbrev main_v150 : Ref sig .tc := ⟨.hbm, 387, rfl⟩
abbrev main_cst_55 : Ref sig .tc := ⟨.hbm, 388, rfl⟩
abbrev main_v151 : Ref sig .tc := ⟨.hbm, 389, rfl⟩
abbrev main_cst_56 : Ref sig .tc := ⟨.hbm, 390, rfl⟩
abbrev main_v152 : Ref sig .tc := ⟨.hbm, 391, rfl⟩
abbrev main_v153 : Ref sig .tc := ⟨.hbm, 392, rfl⟩
abbrev main_call13_cst : Ref sig .tc := ⟨.hbm, 393, rfl⟩
abbrev main_call13_v0 : Ref sig .tc := ⟨.hbm, 394, rfl⟩
abbrev main_v154 : Ref sig .tc := ⟨.hbm, 395, rfl⟩
abbrev main_cst_57 : Ref sig .tc := ⟨.hbm, 396, rfl⟩
abbrev main_v155 : Ref sig .tc := ⟨.hbm, 397, rfl⟩
abbrev main_cst_58 : Ref sig .tc := ⟨.hbm, 398, rfl⟩
abbrev main_v156 : Ref sig .tc := ⟨.hbm, 399, rfl⟩
abbrev main_cst_59 : Ref sig .tc := ⟨.hbm, 400, rfl⟩
abbrev main_v157 : Ref sig .tc := ⟨.hbm, 401, rfl⟩
abbrev main_v158 : Ref sig .tc := ⟨.hbm, 402, rfl⟩
abbrev main_cst_60 : Ref sig .tc := ⟨.hbm, 403, rfl⟩
abbrev main_v159 : Ref sig .tc := ⟨.hbm, 404, rfl⟩
abbrev main_v160 : Ref sig .tc := ⟨.hbm, 405, rfl⟩
abbrev main_v161 : Ref sig .tc := ⟨.hbm, 406, rfl⟩
abbrev main_cst_61 : Ref sig .tc := ⟨.hbm, 407, rfl⟩
abbrev main_v162 : Ref sig .tc := ⟨.hbm, 408, rfl⟩
abbrev main_v163 : Ref sig .tc := ⟨.hbm, 409, rfl⟩
abbrev main_cst_62 : Ref sig .tc := ⟨.hbm, 410, rfl⟩
abbrev main_v164 : Ref sig .tc := ⟨.hbm, 411, rfl⟩
abbrev main_v165 : Ref sig .tc := ⟨.hbm, 412, rfl⟩
abbrev main_v166 : Ref sig .tc := ⟨.hbm, 413, rfl⟩
abbrev main_v167 : Ref sig .tc := ⟨.hbm, 414, rfl⟩
abbrev main_cst_63 : Ref sig .tc := ⟨.hbm, 415, rfl⟩
abbrev main_v168 : Ref sig .tc := ⟨.hbm, 416, rfl⟩
abbrev main_v169 : Ref sig .tc := ⟨.hbm, 417, rfl⟩
abbrev main_cst_64 : Ref sig .tc := ⟨.hbm, 418, rfl⟩
abbrev main_v170 : Ref sig .tc := ⟨.hbm, 419, rfl⟩
abbrev main_v171 : Ref sig .tc := ⟨.hbm, 420, rfl⟩
abbrev main_v172 : Ref sig .tc := ⟨.hbm, 421, rfl⟩
abbrev main_v173 : Ref sig .tc := ⟨.hbm, 422, rfl⟩
abbrev main_v174 : Ref sig .tc := ⟨.hbm, 423, rfl⟩
abbrev main_cst_65 : Ref sig .tc := ⟨.hbm, 424, rfl⟩
abbrev main_v175 : Ref sig .tc := ⟨.hbm, 425, rfl⟩
abbrev main_v176 : Ref sig .tc := ⟨.hbm, 426, rfl⟩
abbrev main_v177 : Ref sig .tc := ⟨.hbm, 427, rfl⟩
abbrev main_cst_66 : Ref sig .tc := ⟨.hbm, 428, rfl⟩
abbrev main_v178 : Ref sig .tc := ⟨.hbm, 429, rfl⟩
abbrev main_v179 : Ref sig .tc := ⟨.hbm, 430, rfl⟩
abbrev main_v180 : Ref sig .tc := ⟨.hbm, 431, rfl⟩
abbrev main_cst_67 : Ref sig .tc := ⟨.hbm, 432, rfl⟩
abbrev main_v181 : Ref sig .tc := ⟨.hbm, 433, rfl⟩
abbrev main_call14_v0 : Ref sig .tc := ⟨.hbm, 434, rfl⟩
abbrev main_call14_v1 : Ref sig .tc := ⟨.hbm, 435, rfl⟩
abbrev main_call14_c : Ref sig .tc := ⟨.hbm, 436, rfl⟩
abbrev main_call14_v2 : Ref sig .tc := ⟨.hbm, 437, rfl⟩
abbrev main_call14_v3 : Ref sig .tc := ⟨.hbm, 438, rfl⟩
abbrev main_call14_c_0 : Ref sig .tc := ⟨.hbm, 439, rfl⟩
abbrev main_call14_v4 : Ref sig .tc := ⟨.hbm, 440, rfl⟩
abbrev main_call14_v5 : Ref sig .tc := ⟨.hbm, 441, rfl⟩
abbrev main_call14_v6 : Ref sig .tc := ⟨.hbm, 442, rfl⟩
abbrev main_call14_c_1 : Ref sig .tc := ⟨.hbm, 443, rfl⟩
abbrev main_call14_v7 : Ref sig .tc := ⟨.hbm, 444, rfl⟩
abbrev main_call14_v8 : Ref sig .tc := ⟨.hbm, 445, rfl⟩
abbrev main_call14_c_2 : Ref sig .tc := ⟨.hbm, 446, rfl⟩
abbrev main_call14_v9 : Ref sig .tc := ⟨.hbm, 447, rfl⟩
abbrev main_call14_v10 : Ref sig .tc := ⟨.hbm, 448, rfl⟩
abbrev main_call14_v11 : Ref sig .tc := ⟨.hbm, 449, rfl⟩
abbrev main_call14_v12 : Ref sig .tc := ⟨.hbm, 450, rfl⟩
abbrev main_call14_v13 : Ref sig .tc := ⟨.hbm, 451, rfl⟩
abbrev main_call14_v14 : Ref sig .tc := ⟨.hbm, 452, rfl⟩
abbrev main_v182 : Ref sig .tc := ⟨.hbm, 453, rfl⟩
abbrev main_v183 : Ref sig .tc := ⟨.hbm, 454, rfl⟩
abbrev main_cst_68 : Ref sig .tc := ⟨.hbm, 455, rfl⟩
abbrev main_v184 : Ref sig .tc := ⟨.hbm, 456, rfl⟩
abbrev main_v185 : Ref sig .tc := ⟨.hbm, 457, rfl⟩
abbrev main_cst_69 : Ref sig .tc := ⟨.hbm, 458, rfl⟩
abbrev main_v186 : Ref sig .tc := ⟨.hbm, 459, rfl⟩
abbrev main_v187 : Ref sig .tc := ⟨.hbm, 460, rfl⟩
abbrev main_cst_70 : Ref sig .tc := ⟨.hbm, 461, rfl⟩
abbrev main_v188 : Ref sig .tc := ⟨.hbm, 462, rfl⟩
abbrev main_v189 : Ref sig .tc := ⟨.hbm, 463, rfl⟩
abbrev main_v190 : Ref sig .tc := ⟨.hbm, 464, rfl⟩
abbrev main_cst_71 : Ref sig .tc := ⟨.hbm, 465, rfl⟩
abbrev main_v191 : Ref sig .tc := ⟨.hbm, 466, rfl⟩
abbrev main_call15_v0 : Ref sig .tc := ⟨.hbm, 467, rfl⟩
abbrev main_call15_v1 : Ref sig .tc := ⟨.hbm, 468, rfl⟩
abbrev main_call15_c : Ref sig .tc := ⟨.hbm, 469, rfl⟩
abbrev main_call15_v2 : Ref sig .tc := ⟨.hbm, 470, rfl⟩
abbrev main_call15_v3 : Ref sig .tc := ⟨.hbm, 471, rfl⟩
abbrev main_call15_c_0 : Ref sig .tc := ⟨.hbm, 472, rfl⟩
abbrev main_call15_v4 : Ref sig .tc := ⟨.hbm, 473, rfl⟩
abbrev main_call15_v5 : Ref sig .tc := ⟨.hbm, 474, rfl⟩
abbrev main_call15_v6 : Ref sig .tc := ⟨.hbm, 475, rfl⟩
abbrev main_call15_c_1 : Ref sig .tc := ⟨.hbm, 476, rfl⟩
abbrev main_call15_v7 : Ref sig .tc := ⟨.hbm, 477, rfl⟩
abbrev main_call15_v8 : Ref sig .tc := ⟨.hbm, 478, rfl⟩
abbrev main_call15_c_2 : Ref sig .tc := ⟨.hbm, 479, rfl⟩
abbrev main_call15_v9 : Ref sig .tc := ⟨.hbm, 480, rfl⟩
abbrev main_call15_v10 : Ref sig .tc := ⟨.hbm, 481, rfl⟩
abbrev main_call15_v11 : Ref sig .tc := ⟨.hbm, 482, rfl⟩
abbrev main_call15_v12 : Ref sig .tc := ⟨.hbm, 483, rfl⟩
abbrev main_call15_v13 : Ref sig .tc := ⟨.hbm, 484, rfl⟩
abbrev main_call15_v14 : Ref sig .tc := ⟨.hbm, 485, rfl⟩
abbrev main_v192 : Ref sig .tc := ⟨.hbm, 486, rfl⟩
abbrev main_v193 : Ref sig .tc := ⟨.hbm, 487, rfl⟩
abbrev main_cst_72 : Ref sig .tc := ⟨.hbm, 488, rfl⟩
abbrev main_v194 : Ref sig .tc := ⟨.hbm, 489, rfl⟩
abbrev main_v195 : Ref sig .tc := ⟨.hbm, 490, rfl⟩
abbrev main_cst_73 : Ref sig .tc := ⟨.hbm, 491, rfl⟩
abbrev main_v196 : Ref sig .tc := ⟨.hbm, 492, rfl⟩
abbrev main_v197 : Ref sig .tc := ⟨.hbm, 493, rfl⟩
abbrev main_cst_74 : Ref sig .tc := ⟨.hbm, 494, rfl⟩
abbrev main_v198 : Ref sig .tc := ⟨.hbm, 495, rfl⟩
abbrev main_v199 : Ref sig .tc := ⟨.hbm, 496, rfl⟩
abbrev main_v200 : Ref sig .tc := ⟨.hbm, 497, rfl⟩
abbrev main_cst_75 : Ref sig .tc := ⟨.hbm, 498, rfl⟩
abbrev main_v201 : Ref sig .tc := ⟨.hbm, 499, rfl⟩
abbrev main_cst_76 : Ref sig .tc := ⟨.hbm, 500, rfl⟩
abbrev main_v202 : Ref sig .tc := ⟨.hbm, 501, rfl⟩
abbrev main_cst_77 : Ref sig .tc := ⟨.hbm, 502, rfl⟩
abbrev main_v203 : Ref sig .tc := ⟨.hbm, 503, rfl⟩
abbrev main_cst_78 : Ref sig .tc := ⟨.hbm, 504, rfl⟩
abbrev main_v204 : Ref sig .tc := ⟨.hbm, 505, rfl⟩
abbrev main_cst_79 : Ref sig .tc := ⟨.hbm, 506, rfl⟩
abbrev main_v205 : Ref sig .tc := ⟨.hbm, 507, rfl⟩
abbrev main_v206 : Ref sig .tc := ⟨.hbm, 508, rfl⟩
abbrev main_cst_80 : Ref sig .tc := ⟨.hbm, 509, rfl⟩
abbrev main_v207 : Ref sig .tc := ⟨.hbm, 510, rfl⟩
abbrev main_cst_81 : Ref sig .tc := ⟨.hbm, 511, rfl⟩
abbrev main_v208 : Ref sig .tc := ⟨.hbm, 512, rfl⟩
abbrev main_v209 : Ref sig .tc := ⟨.hbm, 513, rfl⟩
abbrev main_cst_82 : Ref sig .tc := ⟨.hbm, 514, rfl⟩
abbrev main_v210 : Ref sig .tc := ⟨.hbm, 515, rfl⟩
abbrev main_cst_83 : Ref sig .tc := ⟨.hbm, 516, rfl⟩
abbrev main_v211 : Ref sig .tc := ⟨.hbm, 517, rfl⟩
abbrev main_v212 : Ref sig .tc := ⟨.hbm, 518, rfl⟩
abbrev main_v213 : Ref sig .tc := ⟨.hbm, 519, rfl⟩
abbrev main_v214 : Ref sig .tc := ⟨.hbm, 520, rfl⟩
abbrev main_v215 : Ref sig .tc := ⟨.hbm, 521, rfl⟩
abbrev main_v216 : Ref sig .tc := ⟨.hbm, 522, rfl⟩

abbrev nD : Nat := 1
abbrev τ : Topo := Topo.v7x

variable {F : FTy → Type} [FloatOps F]
-- ==== Proof.Kern.lean ====
module

public import proofs.«01_k».proof.Proof.Gen.KernelIdeal.Frame
public import Idealize.ShloMosaic.Lib.Pipeline.ValueKit
public import Idealize.ShloMosaic.Lib.Pipeline.ValueKit.Stack
public import Idealize.ShloMosaic.Lib.Pipeline.ReadBack

@[expose] public section

set_option maxRecDepth 16384

noncomputable section

open Idealize.ShloMosaic Idealize.ShloMosaic.TcCoe Idealize.SL.Sem

/-! The kernel's body as compact functions of its two whole blocks, each stated once for every batch row and both sides. -/

namespace Cert.KernelIdeal.Val

open Cert.KernelIdeal Cert.KernelIdeal.Gen

/-- A batch row of a block is a slice of it. -/
theorem slX : ∀ i : Fin 8, S8x576x192.Slices ![(i : ℕ), 0, 0] S1x576x192 := by decide

/-- A batch row of the row norms is a slice of them. -/
theorem slN : ∀ i : Fin 8, S8x576.Slices ![(i : ℕ), 0] S1x576 := by decide

/-- Row `i` of a block. -/
def rowOf {φ : FTy} (i : Fin 8) (x : FVec Ideal S8x576x192 φ) : FVec Ideal S576x192 φ :=
  shapeCast S576x192 (extractStridedSlice S1x576x192 ![(i : ℕ), 0, 0] x (slX i)) shapeCasts_S1x576x192_S576x192

/-- A block as the kernel reads it: recast to its own shape. -/
def self8 (x : FVec Ideal S8x576x192 .f32) : FVec Ideal S8x576x192 .f32 := shapeCast S8x576x192 x shapeCasts_S8x576x192_S8x576x192

/-- The squared norms of a block's points. -/
def norms (x : FVec Ideal S8x576x192 .f32) : FVec Ideal S8x576 .f32 :=
  multiReduction .add [2] S8x576 (mulf (self8 x) (self8 x)) 0x00000000#32 reduces_S8x576x192_S8x576 (.inl rfl) rfl

/-- A block rounded to the matrix unit's element type. -/
def low (x : FVec Ideal S8x576x192 .f32) : FVec Ideal S8x576x192 .bf16 := truncf .bf16 (self8 x) bitsLt_bf16_f32

/-- Row `i` of the norms as one vector. -/
def normRow (i : Fin 8) (n : FVec Ideal S8x576 .f32) : FVec Ideal S576 .f32 :=
  shapeCast S576 (extractStridedSlice S1x576 ![(i : ℕ), 0] n (slN i)) shapeCasts_S1x576_S576

/-- The table of squared distances of two rows, from their norms and their points. -/
def distOf (na nb : FVec Ideal S576 .f32) (a b : FVec Ideal S576x192 .bf16) : FVec Ideal S576x576 .f32 :=
  subf
    (addf (broadcastTo S576x576 (shapeCast S576x1 na shapeCasts_S576_S576x1) broadcasts_S576x1_S576x576)
      (broadcastTo S576x576 (shapeCast S1x576 nb shapeCasts_S576_S1x576) broadcasts_S1x576_S576x576))
    (mulf (broadcast S576x576 (Scalar.ofBits .f32 0x40000000#32))
      (matmul dot_S576x192_S576x192_S576x576_1_1_0_0_n_n none a b (constant S576x576 .f32 0x00000000#32)))

/-- The table of squared distances of row `i`. -/
def dist (i : Fin 8) (x y : FVec Ideal S8x576x192 .f32) : FVec Ideal S576x576 .f32 :=
  distOf (normRow i (norms x)) (normRow i (norms y)) (rowOf i (low x)) (rowOf i (low y))

/-- The least entry of each row of a table, as a column. -/
def mnR (d : FVec Ideal S576x576 .f32) : FVec Ideal S576x1 .f32 :=
  shapeCast S576x1 (multiReduction .minimumf [1] S576 d 0x7F800000#32 reduces_S576x576_S576 (.inl rfl) rfl) shapeCasts_S576_S576x1

/-- The least entry of each column of a table, as a row. -/
def mnC (d : FVec Ideal S576x576 .f32) : FVec Ideal S1x576 .f32 :=
  shapeCast S1x576 (multiReduction .minimumf [0] S576 d 0x7F800000#32 reduces_S576x576_S576_2 (.inl rfl) rfl) shapeCasts_S576_S1x576

/-- The column numbers of a table. -/
def colNo : IVec S576x576 32 := iota .tc S576x576 32 [1] iota_S576x576_d1_w32

/-- The row numbers of a table. -/
def rowNo : IVec S576x576 32 := iota .tc S576x576 32 [0] iota_S576x576_d0_w32

/-- The first position of the least entry in each row. -/
def firstR (d : FVec Ideal S576x576 .f32) : IVec S576 32 :=
  multiReductionI .minsi [1] S576
    (select (cmpf .oeq d (broadcastTo S576x576 (mnR d) broadcasts_S576x1_S576x576)) colNo (broadcast S576x576 576#32))
    2147483647#32 reduces_S576x576_S576 rfl

/-- The first position of the least entry in each column. -/
def firstC (d : FVec Ideal S576x576 .f32) : IVec S576 32 :=
  multiReductionI .minsi [0] S576
    (select (cmpf .oeq d (broadcastTo S576x576 (mnC d) broadcasts_S1x576_S576x576)) rowNo (broadcast S576x576 576#32))
    2147483647#32 reduces_S576x576_S576_2 rfl

/-- The table that is one at each row's chosen column. -/
def hotR (p : IVec S576 32) : FVec Ideal S576x576 .bf16 :=
  truncf .bf16 (sitofp .f32 (extui 32 (cmpi .eq colNo (broadcastTo S576x576 (shapeCast S576x1 p shapeCasts_S576_S576x1) broadcasts_S576x1_S576x576)) natLt_1_32))
    bitsLt_bf16_f32

/-- The table that is one at each column's chosen row. -/
def hotC (p : IVec S576 32) : FVec Ideal S576x576 .bf16 :=
  truncf .bf16 (sitofp .f32 (extui 32 (cmpi .eq rowNo (broadcastTo S576x576 (shapeCast S1x576 p shapeCasts_S576_S1x576) broadcasts_S1x576_S576x576)) natLt_1_32))
    bitsLt_bf16_f32

/-- The rows a one-hot table picks by its columns. -/
def pickR (h : FVec Ideal S576x576 .bf16) (b : FVec Ideal S576x192 .bf16) : FVec Ideal S576x192 .f32 :=
  matmul dot_S576x576_S576x192_S576x192_1_0_0_1_n_n none h b (constant S576x192 .f32 0x00000000#32)

/-- The rows a one-hot table picks by its rows. -/
def pickC (h : FVec Ideal S576x576 .bf16) (a : FVec Ideal S576x192 .bf16) : FVec Ideal S576x192 .f32 :=
  matmul dot_S576x576_S576x192_S576x192_0_0_1_1_n_n none h a (constant S576x192 .f32 0x00000000#32)

/-- The second block's points nearest to the first's, row `i`. -/
def near1 (x y : FVec Ideal S8x576x192 .f32) (i : Fin 8) : FVec Ideal S576x192 .f32 :=
  pickR (hotR (firstR (dist i x y))) (rowOf i (low y))

/-- The first block's points nearest to the second's, row `i`. -/
def near2 (x y : FVec Ideal S8x576x192 .f32) (i : Fin 8) : FVec Ideal S576x192 .f32 :=
  pickC (hotC (firstC (dist i x y))) (rowOf i (low x))

/-- The sum of a column. -/
def sumCol (v : FVec Ideal S576x1 .f32) : Ideal .f32 :=
  extractAt ![0, 0, 0]
    (shapeCast S1x1x1 (multiReduction .add [1, 2] S1 (shapeCast S1x576x1 v shapeCasts_S576x1_S1x576x1) 0x00000000#32 reduces_S1x576x1_S1 (.inl rfl) rfl)
      shapeCasts_S1_S1x1x1) inpos_S1x1x1_p0_0_0

/-- The sum of a row. -/
def sumRow (v : FVec Ideal S1x576 .f32) : Ideal .f32 :=
  extractAt ![0, 0, 0]
    (shapeCast S1x1x1 (multiReduction .add [1, 2] S1 (shapeCast S1x1x576 v shapeCasts_S1x576_S1x1x576) 0x00000000#32 reduces_S1x1x576_S1 (.inl rfl) rfl)
      shapeCasts_S1_S1x1x1) inpos_S1x1x1_p0_0_0

/-- One batch row's step of the running sum of least distances. -/
def minStep (x y : FVec Ideal S8x576x192 .f32) (acc : Ideal .f32) (i : Fin 8) : Ideal .f32 :=
  Scalar.addf (Scalar.addf acc (sumCol (mnR (dist i x y)))) (sumRow (mnC (dist i x y)))

/-- The invariance term. -/
def invK (x y : FVec Ideal S8x576x192 .f32) : Ideal .f32 :=
  Scalar.divf (Scalar.mulf (Scalar.ofBits .f32 0x41C80000#32) (minStep x y (minStep x y (minStep x y (minStep x y (minStep x y (minStep x y (minStep x y (minStep x y (Scalar.ofBits .f32 0x00000000#32) 0) 1) 2) 3) 4) 5) 6) 7))
    (Scalar.ofBits .f32 0x49D80000#32)

/-- A block less its mean over the batch. -/
def cenK (x : FVec Ideal S8x576x192 .f32) : FVec Ideal S8x576x192 .f32 :=
  subf x (broadcastTo S8x576x192
    (shapeCast S1x576x192 (divf (multiReduction .add [0] S576x192 x 0x00000000#32 reduces_S8x576x192_S576x192 (.inl rfl) rfl)
      (broadcast S576x192 (Scalar.ofBits .f32 0x41000000#32))) shapeCasts_S576x192_S1x576x192) broadcasts_S1x576x192_S8x576x192)

/-- The sum over the batch of a centred block's squares. -/
def sqK (z : FVec Ideal S8x576x192 .f32) : FVec Ideal S576x192 .f32 :=
  multiReduction .add [0] S576x192 (mulf z z) 0x00000000#32 reduces_S8x576x192_S576x192 (.inl rfl) rfl

/-- The variance term of one side. -/
def varK (s : FVec Ideal S576x192 .f32) : Ideal .f32 :=
  Scalar.divf
    (extractAt ![0, 0, 0]
      (shapeCast S1x1x1
        (multiReduction .add [1, 2] S1
          (shapeCast S1x576x192
            (maximumf
              (subf (broadcast S576x192 (Scalar.ofBits .f32 0x3F800000#32))
                (sqrt (addf (divf s (broadcast S576x192 (Scalar.ofBits .f32 0x40E00000#32))) (broadcast S576x192 (Scalar.ofBits .f32 0x38D1B717#32)))))
              (broadcast S576x192 (Scalar.ofBits .f32 0x00000000#32)))
            shapeCasts_S576x192_S1x576x192)
          0x00000000#32 reduces_S1x576x192_S1 (.inl rfl) rfl) shapeCasts_S1_S1x1x1) inpos_S1x1x1_p0_0_0)
    (Scalar.ofBits .f32 0x47D80000#32)

/-- The sum over the channels. -/
def chan (v : FVec Ideal S576x192 .f32) : FVec Ideal S576 .f32 :=
  multiReduction .add [1] S576 v 0x00000000#32 reduces_S576x192_S576 (.inl rfl) rfl

/-- One diagonal step of the Gram sum. -/
def gramD (z : FVec Ideal S8x576x192 .f32) (acc : FVec Ideal S576 .f32) (p : Fin 8) : FVec Ideal S576 .f32 :=
  addf acc (mulf (chan (rowOf p (mulf z z))) (chan (rowOf p (mulf z z))))

/-- One step of the Gram sum off the diagonal. -/
def gramO (z : FVec Ideal S8x576x192 .f32) (p : Fin 8) (acc : FVec Ideal S576 .f32) (q : Fin 8) : FVec Ideal S576 .f32 :=
  addf acc (mulf (broadcast S576 (Scalar.ofBits .f32 0x40000000#32))
    (mulf (chan (mulf (rowOf p z) (rowOf q z))) (chan (mulf (rowOf p z) (rowOf q z)))))

/-- The pairs' order: each row with the rows after it. -/
def pairs : List (Fin 8 × List (Fin 8)) :=
  [(0, [1, 2, 3, 4, 5, 6, 7]), (1, [2, 3, 4, 5, 6, 7]), (2, [3, 4, 5, 6, 7]), (3, [4, 5, 6, 7]), (4, [5, 6, 7]), (5, [6, 7]), (6, [7]), (7, [])]

/-- The sum of the squares of a centred block's Gram matrix. -/
def gramK (z : FVec Ideal S8x576x192 .f32) : FVec Ideal S576 .f32 :=
  pairs.foldl (fun acc p => p.2.foldl (gramO z p.1) (gramD z acc p.1)) (broadcast S576 (Scalar.ofBits .f32 0x00000000#32))

/-- The off-diagonal covariance mass of one side. -/
def offK (z : FVec Ideal S8x576x192 .f32) : FVec Ideal S576 .f32 :=
  divf (subf (gramK z) (chan (mulf (sqK z) (sqK z)))) (broadcast S576 (Scalar.ofBits .f32 0x42440000#32))

/-- One side's share of the covariance term. -/
def shareK (o : FVec Ideal S576 .f32) : FVec Ideal S576 .f32 :=
  divf (divf o (broadcast S576 (Scalar.ofBits .f32 0x43400000#32))) (broadcast S576 (Scalar.ofBits .f32 0x40000000#32))

/-- The variance term of a pair of sides. -/
def vK (x y : FVec Ideal S8x576x192 .f32) : Ideal .f32 :=
  Scalar.mulf (Scalar.ofBits .f32 0x41C80000#32)
    (Scalar.addf (Scalar.divf (varK (sqK (cenK x))) (Scalar.ofBits .f32 0x40000000#32))
      (Scalar.divf (varK (sqK (cenK y))) (Scalar.ofBits .f32 0x40000000#32)))

/-- The covariance term of a pair of sides. -/
def cK (x y : FVec Ideal S8x576x192 .f32) : Ideal .f32 :=
  Scalar.mulf (Scalar.ofBits .f32 0x3F800000#32)
    (Scalar.divf
      (extractAt ![0, 0]
        (shapeCast S1x1
          (multiReduction .add [1] S1 (shapeCast S1x576 (addf (shareK (offK (cenK x))) (shareK (offK (cenK y)))) shapeCasts_S576_S1x576)
            0x00000000#32 reduces_S1x576_S1 (.inl rfl) rfl) shapeCasts_S1_S1x1) inpos_S1x1_p0_0)
      (Scalar.ofBits .f32 0x44100000#32))

/-- The mean of two scalars, as the kernel forms it. -/
def avgK (u v : Ideal .f32) : Ideal .f32 :=
  Scalar.addf (Scalar.divf u (Scalar.ofBits .f32 0x40000000#32)) (Scalar.divf v (Scalar.ofBits .f32 0x40000000#32))

/-- The lane numbers of the output row. -/
def lanes : IVec S1x128 32 := iota .tc S1x128 32 [1] iota_S1x128_d1_w32

/-- The output row: the three terms by lane. -/
def rowK (inv var cov : Ideal .f32) : FVec Ideal S1x128 .f32 :=
  select (cmpi .eq lanes (broadcast S1x128 0#32)) (broadcast S1x128 inv)
    (select (cmpi .eq lanes (broadcast S1x128 1#32)) (broadcast S1x128 var) (broadcast S1x128 cov))

/-- The stored nearest points of the first block. -/
def stack1 (x y : FVec Ideal S8x576x192 .f32) : FVec Ideal S8x576x192 .f32 := stackAlong0 (near1 x y)

/-- The stored nearest points of the second block. -/
def stack2 (x y : FVec Ideal S8x576x192 .f32) : FVec Ideal S8x576x192 .f32 := stackAlong0 (near2 x y)

/-- The output row of a pair of blocks and the two stacks of nearest points. -/
def outOf (x y n1 n2 : FVec Ideal S8x576x192 .f32) : FVec Ideal S1x128 .f32 :=
  rowK (invK x y) (avgK (vK (self8 x) n1) (vK (self8 y) n2)) (avgK (cK (self8 x) n1) (cK (self8 y) n2))

end Cert.KernelIdeal.Val

end
-- ==== Proof.KernOut.lean ====
module

public import proofs.«01_k».proof.Proof.Kern
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem

/-! What the kernel's run leaves in its result array, as a function of the two argument arrays. -/

namespace Cert.KernelIdeal.Val

open Cert.KernelIdeal Cert.KernelIdeal.Gen

variable (m : (ℓ : Loc nD τ sig) → Buf (Elt Ideal) ℓ)

/-- The eight rows stored one by one into a scratch block, read back whole, are the stack of the rows. -/
theorem readStack {κ : Kind} {sp : Space} (v : View sig κ sp S8x576x192 .f32) (f : Fin 8 → FVec Ideal S576x192 .f32)
    (P0 P1 P2 P3 P4 P5 P6 P7 : FVec Ideal S1x576x192 .f32)
    (h : ∀ i, ![P0, P1, P2, P3, P4, P5, P6, P7] i = shapeCast S1x576x192 (f i) shapeCasts_S576x192_S1x576x192) :
    View.readCov (Val := Elt Ideal) v
      [⟨Rect.unit ![7, 0, 0] ![1, 576, 192] inb_S8x576x192_S1x576x192_7_0_0, P7⟩,
       ⟨Rect.unit ![6, 0, 0] ![1, 576, 192] inb_S8x576x192_S1x576x192_6_0_0, P6⟩,
       ⟨Rect.unit ![5, 0, 0] ![1, 576, 192] inb_S8x576x192_S1x576x192_5_0_0, P5⟩,
       ⟨Rect.unit ![4, 0, 0] ![1, 576, 192] inb_S8x576x192_S1x576x192_4_0_0, P4⟩,
       ⟨Rect.unit ![3, 0, 0] ![1, 576, 192] inb_S8x576x192_S1x576x192_3_0_0, P3⟩,
       ⟨Rect.unit ![2, 0, 0] ![1, 576, 192] inb_S8x576x192_S1x576x192_2_0_0, P2⟩,
       ⟨Rect.unit ![1, 0, 0] ![1, 576, 192] inb_S8x576x192_S1x576x192_1_0_0, P1⟩,
       ⟨Rect.unit ![0, 0, 0] ![1, 576, 192] inb_S8x576x192_S1x576x192_0_0_0, P0⟩]
      (Rect.unit ![0, 0, 0] ![8, 576, 192] inb_S8x576x192_S8x576x192_0_0_0).toLoadRect = stackAlong0 f := by
  have h0 := h 0; have h1 := h 1; have h2 := h 2; have h3 := h 3; have h4 := h 4; have h5 := h 5; have h6 := h 6; have h7 := h 7
  simp only [Matrix.cons_val] at h0 h1 h2 h3 h4 h5 h6 h7
  subst h0 h1 h2 h3 h4 h5 h6 h7
  rw [View.readCov_eq_canon']
  funext j
  have hj : (Rect.unit (s := S8x576x192) ![0, 0, 0] ![8, 576, 192] inb_S8x576x192_S8x576x192_0_0_0).toLoadRect.idx j = j := by
    funext a
    apply Fin.ext
    show ((Rect.unit (s := S8x576x192) ![0, 0, 0] ![8, 576, 192] inb_S8x576x192_S8x576x192_0_0_0).idx j a : ℕ) = _
    rw [Rect.idx_unit_val]
    fin_cases a <;> simp
  rw [hj]
  canon_tiles x hx
  all_goals exact stack_piece f _ _ x j (by first | exact hx0 | (rw [hx0]; exact (Nat.zero_add _).symm)) (fun a => by fin_cases a; exacts [hx1, hx2])

/-- The body's output row from the three terms. -/
theorem pay1_congr {a a' b b' c c' : Ideal .f32} (h1 : a = a') (h2 : b = b') (h3 : c = c') :
    k0_pay1 a b c (iota .tc S1x128 32 [1] iota_S1x128_d1_w32) = rowK a' b' c' := by
  subst h1 h2 h3; rfl

/-- What the body leaves in the output block: the compact function of the two blocks. -/
theorem out_eq (c : Dev nD) (t : Fin cfg0.N) (y : S1x128.Idx) :
    outsAt0 m c t y = outOf (iblk m c 0 t) (iblk m c 1 t) (stack1 (iblk m c 0 t) (iblk m c 1 t)) (stack2 (iblk m c 0 t) (iblk m c 1 t)) y := by
  unfold outsAt0
  frame_out
  generalize iblk m c 0 t = X0
  generalize iblk m c 1 t = X1
  generalize hU0 : View.read (Elt Ideal) (View.whole cc0_stg0_0) _ = U0
  generalize hU1 : View.read (Elt Ideal) (View.whole cc0_stg1_0) _ = U1
  obtain rfl : X0 = U0 := (Memref.IsWhole.read_unread _ X0).symm.trans hU0
  obtain rfl : X1 = U1 := (Memref.IsWhole.read_unread _ X1).symm.trans hU1
  clear hU0 hU1
  rw [readStack _ (near1 X0 X1), readStack _ (near2 X0 X1)]
  · generalize hs1 : stack1 X0 X1 = N1
    generalize hs2 : stack2 X0 X1 = N2
    unfold stack1 at hs1
    unfold stack2 at hs2
    rw [hs1, hs2]
    refine congrFun (pay1_congr ?_ ?_ ?_) y
    · as_aux_lemma => rfl
    · as_aux_lemma => rfl
    · as_aux_lemma => rfl
  · as_aux_lemma => (intro i; fin_cases i <;> rfl)
  · as_aux_lemma => (intro i; fin_cases i <;> rfl)

/-- The block the kernel takes of an argument: the maps flattened and the channels moved last. -/
def blockOf (a : FVec Ideal S4x2x192x24x24 .f32) : FVec Ideal S8x576x192 .f32 :=
  transpose S8x576x192 [0, 2, 1] (shapeCast S8x192x576 a shapeCasts_S4x2x192x24x24_S8x192x576) transposes_S8x192x576_S8x576x192_0_2_1

/-- The output row as a function of the arguments. -/
def outRow (a b : FVec Ideal S4x2x192x24x24 .f32) : FVec Ideal S1x128 .f32 :=
  outOf (blockOf a) (blockOf b) (stack1 (blockOf a) (blockOf b)) (stack2 (blockOf a) (blockOf b))

/-- The kernel's result as a function of the arguments. -/
def result (a b : FVec Ideal S4x2x192x24x24 .f32) : FVec Ideal S3 .f32 :=
  shapeCast S3 (extractStridedSlice S1x3 ![0, 0] (outRow a b) slices_S1x128_S1x3_0_0) shapeCasts_S1x3_S3

theorem entry_v1 (c : Dev nD) : V m c main_v1 = blockOf (m ((c : Thread nD τ).loc main_arg0)) := by
  show StableHlo.after (List.flatten [hostOps0]) (fun b => m (c, b)) (Proc.devRef .tc main_v1) = _
  simp only [List.flatten_cons, List.flatten_nil, List.append_nil]
  after_reads_simp
  rfl

theorem entry_v3 (c : Dev nD) : V m c main_v3 = blockOf (m ((c : Thread nD τ).loc main_arg1)) := by
  show StableHlo.after (List.flatten [hostOps0]) (fun b => m (c, b)) (Proc.devRef .tc main_v3) = _
  simp only [List.flatten_cons, List.flatten_nil, List.append_nil]
  after_reads_simp
  rfl

theorem iblk0_eq (c : Dev nD) : iblk m c 0 t0_0 = blockOf (m ((c : Thread nD τ).loc main_arg0)) := by
  refine Eq.trans ?_ (entry_v1 m c)
  unfold iblk
  generalize V m c (Pipeline.arrRef spec0 0) = Z
  funext y

  change Z _ = Z _
  blk_ext! [idx t0_0]
  all_goals first | rfl | exact Nat.zero_add _ | exact (Nat.zero_add _).trans (Nat.one_mul _) | exact (Nat.zero_add _).trans (Nat.mul_one _)

theorem iblk1_eq (c : Dev nD) : iblk m c 1 t0_0 = blockOf (m ((c : Thread nD τ).loc main_arg1)) := by
  refine Eq.trans ?_ (entry_v3 m c)
  unfold iblk
  generalize V m c (Pipeline.arrRef spec0 1) = Z
  funext y
  change Z _ = Z _
  blk_ext! [idx t0_0]
  all_goals first | rfl | exact Nat.zero_add _ | exact (Nat.zero_add _).trans (Nat.one_mul _) | exact (Nat.zero_add _).trans (Nat.mul_one _)

theorem final (c : Dev nD) : (dats m 0 c).arrAt 2 (cfgs 0).N = outRow (m ((c : Thread nD τ).loc main_arg0)) (m ((c : Thread nD τ).loc main_arg1)) := by
  refine (dats m 0 c).arrAt_eq_of_after_last 2 t0_0 (by decide +kernel) _ fun j => ?_
  blk_simp
  rw [after0_2, out_eq, iblk0_eq, iblk1_eq]
  rfl

theorem tail_v6 (c : Dev nD) : Pipeline.afterTail₀ cfgs (dats m) 0 (V0 m) [hostOps1] c main_v6
    = result (m ((c : Thread nD τ).loc main_arg0)) (m ((c : Thread nD τ).loc main_arg1)) := by
  unfold Pipeline.afterTail₀ result
  rw [← final m c]
  simp only [List.flatten_cons, List.flatten_nil, List.append_nil]
  after_reads_simp
  have e : Pipeline.withArrays (cfgs 0).spec c (V0 m c) (fun w => (dats m 0 c).arrAt w (cfgs 0).N) (Proc.devRef .tc main_v4)
      = (dats m 0 c).arrAt 2 (cfgs 0).N :=
    Pipeline.withArrays_arr spec0 launch0.win.arr_inj c (V0 m c) (fun w => (dats m 0 c).arrAt w (cfgs 0).N) 2
  rw [e]
  rfl

/-- The kernel's run: its result array holds `result` of the arguments, which end unchanged. -/
theorem run (ρ : Dev nD → PrngReg) : θ_run defs (onTc (τ := τ) main) ⟨m, fun _ => 0, ρ⟩ (fun r => ∀ c : Dev nD,
      r.2.mem ((c.tc : Thread nD τ).loc main_v6) = result (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans (tail_v6 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.KernelIdeal.Val

end
-- ==== Proof.RefFn.lean ====
module

public import proofs.«01_k».proof.Proof.Gen.ReferenceIdeal
public import Idealize.ShloMosaic.Lib.Claim
public import Idealize.ShloMosaic.Lib.Pipeline.ValueKit
public import Idealize.ShloMosaic.Lib.Pipeline.ReadBack
public import Idealize.ShloMosaic.Lib.StableHlo.RunRead
public import Idealize.ShloMosaic.Lib.StableHlo.RunHlo

@[expose] public section

set_option maxRecDepth 16384

noncomputable section

open Idealize.ShloMosaic Idealize.ShloMosaic.TcCoe Idealize.SL.Sem

/-! The reference as functions of its arrays, each stated once for both directions and both sides. -/

namespace Cert.ReferenceIdeal.Val

open Cert.ReferenceIdeal Cert.ReferenceIdeal.Gen

/-- The zero a sum starts from. -/
def z0 : FVec Ideal S_ .f32 := constant S_ .f32 0x00000000#32

/-- A map flattened, its channels last. -/
def flat (a : FVec Ideal S4x2x192x24x24 .f32) : FVec Ideal S8x576x192 .f32 :=
  transpose S8x576x192 [0, 2, 1] (shapeCast S8x192x576 a shapeCasts_S4x2x192x24x24_S8x192x576) transposes_S8x192x576_S8x576x192_0_2_1

/-- The squared norms of the points. -/
def norms (x : FVec Ideal S8x576x192 .f32) : FVec Ideal S8x576 .f32 :=
  Host.reduceAdd (mulf x x) z0 reducesTo_S8x576x192_S8x576_d2 h_S_

/-- The squared distances between the points of two maps. -/
def dist (x y : FVec Ideal S8x576x192 .f32) : FVec Ideal S8x576x576 .f32 :=
  subf
    (addf
      (broadcastInDim S8x576x576 ![0, 1, 2] bcast_S8x576x1_S8x576x576_0_1_2 (broadcastInDim S8x576x1 ![0, 1] bcast_S8x576_S8x576x1_0_1 (norms x)))
      (broadcastInDim S8x576x576 ![0, 1, 2] bcast_S8x1x576_S8x576x576_0_1_2 (broadcastInDim S8x1x576 ![0, 2] bcast_S8x576_S8x1x576_0_2 (norms y))))
    (mulf (broadcastInDim S8x576x576 ![] bcast_S_S8x576x576 (constant S_ .f32 0x40000000#32))
      (Host.dotGeneral dot_S8x576x192_S8x576x192_S8x576x576_2_2_1_1_0_0 none x y))

/-- The position of the least entry along the last axis. -/
def argmin (d : FVec Ideal S8x576x576 .f32) : IVec S8x576 32 :=
  fun j => (Host.argReduce reducer_argmin_f32_i32 d (iotaInDim S8x576x576 32 2) (constant S_ .f32 0x7F800000#32) (constantI S_ 32 0#32)
    reducesTo_S8x576x576_S8x576_d2 h_S_ j).2

/-- A position for every channel. -/
def perChan (p : IVec S8x576 32) : IVec S8x576x192 32 :=
  broadcastInDim S8x576x192 ![0, 1, 2] bcast_S8x576x1_S8x576x192_0_1_2 (broadcastInDim S8x576x1 ![0, 1] bcast_S8x576_S8x576x1_0_1 p)

/-- A position counted from the end made one from the start. -/
def wrap (i : IVec S8x576x192 32) : IVec S8x576x192x1 32 :=
  shapeCast S8x576x192x1
    (select (cmpi .slt i (broadcastInDim S8x576x192 ![] bcast_S_S8x576x192 (constantI S_ 32 0#32)))
      (addi i (broadcastInDim S8x576x192 ![] bcast_S_S8x576x192 (constantI S_ 32 576#32))) i)
    shapeCasts_S8x576x192_S8x576x192x1

/-- Whether a position lies in the axis. -/
def inside (i : IVec S8x576x192x1 32) : IVec S8x576x192 1 :=
  Host.reduce IntOp.andi
    (andi (cmpi .sge i (broadcastInDim S8x576x192x1 ![] bcast_S_S8x576x192x1 (constantI S_ 32 0#32)))
      (cmpi .sle i (broadcastInDim S8x576x192x1 ![0, 1, 2, 3] bcast_S1x1x1x1_S8x576x192x1_0_1_2_3
        (broadcastInDim S1x1x1x1 ![3] bcast_S1_S1x1x1x1_3 (constantI S1 32 575#32)))))
    (constantI S_ 1 1#1) reducesTo_S8x576x192x1_S8x576x192_d3 h_S_

/-- The points at the positions. -/
def take (x : FVec Ideal S8x576x192 .f32) (i : IVec S8x576x192 32) : FVec Ideal S8x576x192 .f32 :=
  select (inside (wrap i))
    (Host.gather gather_S8x576x192_S8x576x192x1_S8x576x192_n_1_02_02_1_3_111 x (wrap i))
    (broadcastInDim S8x576x192 ![] bcast_S_S8x576x192 (constant S_ .f32 0x7FC00000#32))

/-- The points of the second map nearest to the first map's. -/
def near (x y : FVec Ideal S8x576x192 .f32) : FVec Ideal S8x576x192 .f32 := take y (perChan (argmin (dist x y)))

/-- The invariance term of one direction. -/
def repr (x n : FVec Ideal S8x576x192 .f32) : FVec Ideal S_ .f32 :=
  mulf (constant S_ .f32 0x41C80000#32)
    (Host.divf (Host.reduceAdd (mulf (subf x n) (subf x n)) z0 reducesTo_S8x576x192_S_d0_1_2 h_S_) (constant S_ .f32 0x49580000#32))

/-- A map less its mean over the batch. -/
def cen (x : FVec Ideal S8x576x192 .f32) : FVec Ideal S8x576x192 .f32 :=
  subf x (broadcastInDim S8x576x192 ![0, 1, 2] bcast_S1x576x192_S8x576x192_0_1_2
    (broadcastInDim S1x576x192 ![1, 2] bcast_S576x192_S1x576x192_1_2
      (Host.divf (Host.reduceAdd x z0 reducesTo_S8x576x192_S576x192_d0 h_S_)
        (broadcastInDim S576x192 ![] bcast_S_S576x192 (constant S_ .f32 0x41000000#32)))))

/-- A map less its mean over the batch, as the variance forms it. -/
def cenV (z : FVec Ideal S8x576x192 .f32) : FVec Ideal S8x576x192 .f32 :=
  subf z (broadcastInDim S8x576x192 ![0, 1, 2] bcast_S1x576x192_S8x576x192_0_1_2
    (Host.divf (broadcastInDim S1x576x192 ![1, 2] bcast_S576x192_S1x576x192_1_2 (Host.reduceAdd z z0 reducesTo_S8x576x192_S576x192_d0 h_S_))
      (broadcastInDim S1x576x192 ![] bcast_S_S1x576x192 (constant S_ .f32 0x41000000#32))))

/-- The number the variance divides by. -/
def dof : FVec Ideal S_ .f32 := subf (constant S_ .f32 0x41000000#32) (sitofp .f32 (constantI S_ 32 1#32))

/-- The variance over the batch. -/
def varF (z : FVec Ideal S8x576x192 .f32) : FVec Ideal S576x192 .f32 :=
  select (broadcastInDim S576x192 ![] bcast_S_S576x192 (cmpf .ogt dof z0))
    (Host.divf (Host.reduceAdd (mulf (cenV z) (cenV z)) z0 reducesTo_S8x576x192_S576x192_d0 h_S_)
      (broadcastInDim S576x192 ![] bcast_S_S576x192 dof))
    (broadcastInDim S576x192 ![] bcast_S_S576x192 (id (constant S_ .f32 0x7FC00000#32)))

/-- The hinge of the standard deviation. -/
def hinge (z : FVec Ideal S8x576x192 .f32) : FVec Ideal S576x192 .f32 :=
  maximumf
    (subf (broadcastInDim S576x192 ![] bcast_S_S576x192 (constant S_ .f32 0x3F800000#32))
      (Host.sqrt (addf (varF z) (broadcastInDim S576x192 ![] bcast_S_S576x192 (constant S_ .f32 0x38D1B717#32)))))
    (broadcastInDim S576x192 ![] bcast_S_S576x192 z0)

/-- Half the mean hinge of one side. -/
def stdT (z : FVec Ideal S8x576x192 .f32) : FVec Ideal S_ .f32 :=
  Host.divf (Host.divf (Host.reduceAdd (hinge z) z0 reducesTo_S576x192_S_d0_1 h_S_) (constant S_ .f32 0x47D80000#32)) (constant S_ .f32 0x40000000#32)

/-- The variance term of a pair of sides. -/
def std (x n : FVec Ideal S8x576x192 .f32) : FVec Ideal S_ .f32 :=
  mulf (constant S_ .f32 0x41C80000#32) (addf (stdT (cen x)) (stdT (cen n)))

/-- Points first, then batch. -/
def byPoint (z : FVec Ideal S8x576x192 .f32) : FVec Ideal S576x8x192 .f32 := transpose S576x8x192 [1, 0, 2] z transposes_S8x576x192_S576x8x192_1_0_2

/-- Centred over the batch once more. -/
def cenP (z : FVec Ideal S576x8x192 .f32) : FVec Ideal S576x8x192 .f32 :=
  subf z (broadcastInDim S576x8x192 ![0, 1, 2] bcast_S576x1x192_S576x8x192_0_1_2
    (Host.divf (broadcastInDim S576x1x192 ![0, 2] bcast_S576x192_S576x1x192_0_2 (Host.reduceAdd z z0 reducesTo_S576x8x192_S576x192_d1 h_S_))
      (broadcastInDim S576x1x192 ![] bcast_S_S576x1x192 (constant S_ .f32 0x41000000#32))))

/-- The covariance matrix of the channels at each point. -/
def covM (z : FVec Ideal S576x8x192 .f32) : FVec Ideal S576x192x192 .f32 :=
  Host.divf (Host.dotGeneral dot_S576x8x192_S576x8x192_S576x192x192_1_1_2_2_0_0 none z z)
    (broadcastInDim S576x192x192 ![] bcast_S_S576x192x192 (constant S_ .f32 0x40E00000#32))

/-- The channel numbers, each made one from the start. -/
def chanNo : IVec S192 32 :=
  select (cmpi .slt (iotaInDim S192 32 0) (broadcastInDim S192 ![] bcast_S_S192 (constantI S_ 32 0#32)))
    (addi (iotaInDim S192 32 0) (broadcastInDim S192 ![] bcast_S_S192 (constantI S_ 32 192#32))) (iotaInDim S192 32 0)

/-- The pairs of equal channels. -/
def diagIdx : IVec S192x2 32 :=
  concatenate S192x2 1 [⟨S192x1, broadcastInDim S192x1 ![0] bcast_S192_S192x1_0 chanNo⟩, ⟨S192x1, broadcastInDim S192x1 ![0] bcast_S192_S192x1_0 chanNo⟩]
    concatenates_S192x1_S192x1_S192x2_d1

/-- The diagonal of each matrix. -/
def diag (q : FVec Ideal S576x192x192 .f32) : FVec Ideal S576x192 .f32 :=
  Host.gather gather_S576x192x192_S192x2_S576x192_0_12_n_n_12_1_57611 q diagIdx

/-- The sum of the squares off the diagonal. -/
def offD (q : FVec Ideal S576x192x192 .f32) : FVec Ideal S576 .f32 :=
  subf (Host.reduceAdd (mulf q q) z0 reducesTo_S576x192x192_S576_d1_2 h_S_)
    (Host.reduceAdd (mulf (diag q) (diag q)) z0 reducesTo_S576x192_S576_d1 h_S_)

/-- One side's share of the covariance term. -/
def share (q : FVec Ideal S576x192x192 .f32) : FVec Ideal S576 .f32 :=
  Host.divf (Host.divf (offD q) (broadcastInDim S576 ![] bcast_S_S576 (constant S_ .f32 0x43400000#32)))
    (broadcastInDim S576 ![] bcast_S_S576 (constant S_ .f32 0x40000000#32))

/-- The covariance matrices of one side. -/
def covOf (x : FVec Ideal S8x576x192 .f32) : FVec Ideal S576x192x192 .f32 := covM (cenP (byPoint (cen x)))

/-- The covariance term of a pair of sides. -/
def cov (x n : FVec Ideal S8x576x192 .f32) : FVec Ideal S_ .f32 :=
  mulf (constant S_ .f32 0x3F800000#32)
    (Host.divf (Host.reduceAdd (addf (share (covOf x)) (share (covOf n))) z0 reducesTo_S576_S_d0 h_S_) (constant S_ .f32 0x44100000#32))

/-- The mean of the two directions. -/
def avg (u v : FVec Ideal S_ .f32) : FVec Ideal S_ .f32 :=
  addf (Host.divf u (constant S_ .f32 0x40000000#32)) (Host.divf v (constant S_ .f32 0x40000000#32))

/-- Three scalars as one vector. -/
def three (u v w : FVec Ideal S_ .f32) : FVec Ideal S3 .f32 :=
  concatenate S3 0 [⟨S1, broadcastInDim S1 ![] bcast_S_S1 u⟩, ⟨S1, broadcastInDim S1 ![] bcast_S_S1 v⟩, ⟨S1, broadcastInDim S1 ![] bcast_S_S1 w⟩]
    concatenates_S1_S1_S1_S3_d0

/-- The reference's result, from the flattened maps and the nearest points of each. -/
def resOf (x y n1 n2 : FVec Ideal S8x576x192 .f32) : FVec Ideal S3 .f32 :=
  three (avg (repr x n1) (repr y n2)) (avg (std x n1) (std y n2)) (avg (cov x n1) (cov y n2))

/-- The reference's result as a function of its arguments. -/
def result (a b : FVec Ideal S4x2x192x24x24 .f32) : FVec Ideal S3 .f32 :=
  resOf (flat a) (flat b) (near (flat a) (flat b)) (near (flat b) (flat a))

end Cert.ReferenceIdeal.Val

end
-- ==== Proof.RefRun.lean ====
module

public import proofs.«01_k».proof.Proof.RefFn

@[expose] public section

set_option maxRecDepth 65536

noncomputable section

open Idealize.ShloMosaic Idealize.ShloMosaic.TcCoe Idealize.SL.Sem

namespace Cert.ReferenceIdeal.Val

open Cert.ReferenceIdeal Cert.ReferenceIdeal.Gen

variable (m : (ℓ : Loc nD τ sig) → Buf (Elt Ideal) ℓ)

/-- Three scalars as one vector, from the three vectors of one entry. -/
theorem three_of (X0 X1 X2 : FVec Ideal S1 .f32) (u v w : FVec Ideal S_ .f32) (h0 : X0 = broadcastInDim S1 ![] bcast_S_S1 u)
    (h1 : X1 = broadcastInDim S1 ![] bcast_S_S1 v) (h2 : X2 = broadcastInDim S1 ![] bcast_S_S1 w) :
    concatenate S3 0 [⟨S1, X0⟩, ⟨S1, X1⟩, ⟨S1, X2⟩] concatenates_S1_S1_S1_S3_d0 = three u v w := by
  rw [h0, h1, h2]; rfl

set_option maxHeartbeats 4000000 in
theorem run (ρ : Dev nD → PrngReg) : θ_run (defs (F := Ideal)) (onTc (τ := τ) main) ⟨m, fun _ => 0, ρ⟩ (fun r => ∀ c : Dev nD,
      r.2.mem ((c.tc : Thread nD τ).loc main_v216) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (StableHlo.run_hlo defs main (by hlo_seq) (by decide) (by decide) ?_ ?_ m ρ) ?_
  · simp
  · intro _ h
    (repeat (cases h with | head => rfl | tail _ h => ?_)); exact nomatch h
  · intro r h c
    refine ⟨(h c main_v216).trans ?_, (h c main_arg0).trans ?_, (h c main_arg1).trans ?_⟩
    · after_reads_simp
      refine three_of _ _ _ _ _ _ ?_ ?_ ?_
      · change StableHlo.upto _ _ _ (Proc.devRef .tc main_v213) = _
        after_reads_simp
        simp -implicitDefEqProofs only [StableHlo.TRef.toBuf, StableHlo.TRef.ofBuf, cast_cast, cast_eq]
        as_aux_lemma => rfl
      · change StableHlo.upto _ _ _ (Proc.devRef .tc main_v214) = _
        after_reads_simp
        simp -implicitDefEqProofs only [StableHlo.TRef.toBuf, StableHlo.TRef.ofBuf, cast_cast, cast_eq]
        as_aux_lemma => rfl
      · change StableHlo.upto _ _ _ (Proc.devRef .tc main_v215) = _
        after_reads_simp
        simp -implicitDefEqProofs only [StableHlo.TRef.toBuf, StableHlo.TRef.ofBuf, cast_cast, cast_eq]
        as_aux_lemma => rfl
    · after_reads_simp
    · after_reads_simp

end Cert.ReferenceIdeal.Val

end
-- ==== Proof.Reals.lean ====
module

public import proofs.«01_k».proof.Proof.Kern

@[expose] public section

noncomputable section

open Idealize.ShloMosaic

/-! The problem's real numbers: least positions, centred maps, variances and Gram sums, and the facts that join the two ways of forming them. -/

namespace Cert.Num

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals, the divisor not zero. -/
theorem div_coe (x : ℝ) {y : ℝ} (h : y ≠ 0) : Ideal.div (x : EReal) (y : EReal) = ((x / y : ℝ) : EReal) := by
  rw [Ideal.div_coe h, ← EReal.coe_mul, mul_one_div]

/-- The root of a real that is not negative. -/
theorem sqrt_coe {x : ℝ} (h : 0 ≤ x) : Ideal.sqrt (x : EReal) = ((Real.sqrt x : ℝ) : EReal) := by
  rw [Ideal.sqrt_coe, if_neg (not_lt.mpr h)]

/-- The greater of two reals. -/
theorem max_coe (x y : ℝ) : max (x : EReal) (y : EReal) = ((max x y : ℝ) : EReal) :=
  ((EReal.coe_strictMono.monotone).map_max).symm

/-! ### The words of the constants -/

theorem w2 : Ideal.ofBits .f32 0x40000000#32 = ((2 : ℝ) : EReal) := by
  simp [Ideal.ofBits, Ideal.ieee]; norm_cast; norm_num
theorem w7 : Ideal.ofBits .f32 0x40E00000#32 = ((7 : ℝ) : EReal) := by
  simp [Ideal.ofBits, Ideal.ieee]; norm_cast; norm_num
theorem w8 : Ideal.ofBits .f32 0x41000000#32 = ((8 : ℝ) : EReal) := by
  simp [Ideal.ofBits, Ideal.ieee]; norm_cast; norm_num
theorem w25 : Ideal.ofBits .f32 0x41C80000#32 = ((25 : ℝ) : EReal) := by
  simp [Ideal.ofBits, Ideal.ieee]; norm_cast; norm_num
theorem w49 : Ideal.ofBits .f32 0x42440000#32 = ((49 : ℝ) : EReal) := by
  simp [Ideal.ofBits, Ideal.ieee]; norm_cast; norm_num
theorem w192 : Ideal.ofBits .f32 0x43400000#32 = ((192 : ℝ) : EReal) := by
  simp [Ideal.ofBits, Ideal.ieee]; norm_cast; norm_num
theorem w576 : Ideal.ofBits .f32 0x44100000#32 = ((576 : ℝ) : EReal) := by
  simp [Ideal.ofBits, Ideal.ieee]; norm_cast; norm_num
theorem w110592 : Ideal.ofBits .f32 0x47D80000#32 = ((110592 : ℝ) : EReal) := by
  simp [Ideal.ofBits, Ideal.ieee]; norm_cast; norm_num
theorem w884736 : Ideal.ofBits .f32 0x49580000#32 = ((884736 : ℝ) : EReal) := by
  simp [Ideal.ofBits, Ideal.ieee]; norm_cast; norm_num
theorem w1769472 : Ideal.ofBits .f32 0x49D80000#32 = ((1769472 : ℝ) : EReal) := by
  simp [Ideal.ofBits, Ideal.ieee]; norm_cast; norm_num
theorem wTop : Ideal.ofBits .f32 0x7F800000#32 = ⊤ := by
  simp [Ideal.ofBits, Ideal.ieee]

/-- The small number under the root. -/
def eps : ℝ := 13743895 * (2 ^ 37)⁻¹

theorem wEps : Ideal.ofBits .f32 0x38D1B717#32 = (eps : EReal) := by
  unfold eps
  rw [EReal.coe_mul]
  simp [Ideal.ofBits, Ideal.ieee]

theorem eps_nonneg : 0 ≤ eps := by
  unfold eps
  positivity

/-! ### The first least position -/

theorem least_nonempty (f : Fin 576 → ℝ) : (Finset.univ.filter fun n => ∀ m, f n ≤ f m).Nonempty := by
  obtain ⟨n, hn⟩ := Finite.exists_min f
  exact ⟨n, by simpa using hn⟩

/-- The first position of the least value. -/
def am (f : Fin 576 → ℝ) : Fin 576 := (Finset.univ.filter fun n => ∀ m, f n ≤ f m).min' (least_nonempty f)

theorem am_le (f : Fin 576 → ℝ) (m : Fin 576) : f (am f) ≤ f m := by
  have h := (Finset.univ.filter fun n => ∀ m, f n ≤ f m).min'_mem (least_nonempty f)
  exact (Finset.mem_filter.1 h).2 m

theorem am_first (f : Fin 576 → ℝ) (m : Fin 576) (h : f m ≤ f (am f)) : am f ≤ m :=
  Finset.min'_le _ _ (Finset.mem_filter.2 ⟨Finset.mem_univ _, fun k => h.trans (am_le f k)⟩)

theorem eq_am (f : Fin 576 → ℝ) (n : Fin 576) (h : ∀ m, f n ≤ f m) (h' : ∀ m, f m = f n → n ≤ m) : n = am f :=
  le_antisymm (h' _ (le_antisymm (am_le f n) (h _))) (am_first f n (h _))

/-- The least value, as a fold. -/
theorem fold_min (f : Fin 576 → ℝ) : Finset.univ.fold min (⊤ : EReal) (fun m => (f m : EReal)) = (f (am f) : EReal) := by
  refine le_antisymm ?_ ?_
  · exact (Finset.fold_min_le _).2 (Or.inr ⟨am f, Finset.mem_univ _, le_rfl⟩)
  · exact (Finset.le_fold_min _).2 ⟨le_top, fun m _ => EReal.coe_le_coe_iff.2 (am_le f m)⟩

theorem toInt_small (k : ℕ) (h : k < 2 ^ 31) : (BitVec.ofNat 32 k).toInt = (k : ℤ) := by
  rw [BitVec.toInt_ofNat', Int.bmod_eq_of_le] <;> omega

theorem toInt_minsi (a b : BitVec 32) : (IntOp.minsi a b).toInt = min a.toInt b.toInt := by
  unfold IntOp.minsi
  simp only [BitVec.slt]
  split <;> rename_i h <;> simp at h <;> omega

/-- The least of the positions that hold the least value. -/
theorem fold_first (f : Fin 576 → ℝ) :
    Finset.univ.fold IntOp.minsi 2147483647#32 (fun m : Fin 576 => if (f m : EReal) = (f (am f) : EReal) then BitVec.ofNat 32 (m : ℕ) else 576#32)
      = BitVec.ofNat 32 (am f : ℕ) := by
  apply BitVec.eq_of_toInt_eq
  have h := Finset.fold_hom (op := IntOp.minsi) (op' := min) (m := BitVec.toInt) (s := (Finset.univ : Finset (Fin 576))) (b := 2147483647#32)
    (f := fun m : Fin 576 => if (f m : EReal) = (f (am f) : EReal) then BitVec.ofNat 32 (m : ℕ) else 576#32) toInt_minsi
  rw [← h, toInt_small (am f : ℕ) (by have := (am f).isLt; omega)]
  have hv : ∀ m : Fin 576, (if (f m : EReal) = (f (am f) : EReal) then BitVec.ofNat 32 (m : ℕ) else 576#32).toInt
      = if f m = f (am f) then ((m : ℕ) : ℤ) else 576 := by
    intro m
    simp only [EReal.coe_eq_coe_iff]
    split
    · exact toInt_small _ (by have := m.isLt; omega)
    · rfl
  simp only [hv]
  refine le_antisymm ?_ ?_
  · exact (Finset.fold_min_le _).2 (Or.inr ⟨am f, Finset.mem_univ _, by simp⟩)
  · refine (Finset.le_fold_min _).2 ⟨?_, fun m _ => ?_⟩
    · have := (am f).isLt
      have h2 : (2147483647#32).toInt = 2147483647 := by decide
      omega
    · split
      · next he => exact_mod_cast (am_first f m he.le)
      · have := (am f).isLt
        omega

/-! ### The model -/

/-- A map's real entries. -/
abbrev Map := Fin 8 → Fin 576 → Fin 192 → ℝ

/-- The squared distance of two points. -/
def dd (A B : Map) (i : Fin 8) (n m : Fin 576) : ℝ := ∑ c, (A i n c - B i m c) * (A i n c - B i m c)

theorem dd_eq (A B : Map) (i : Fin 8) (n m : Fin 576) :
    ∑ c, A i n c * A i n c + ∑ c, B i m c * B i m c - 2 * ∑ c, A i n c * B i m c = dd A B i n m := by
  unfold dd
  rw [Finset.mul_sum, ← Finset.sum_add_distrib, ← Finset.sum_sub_distrib]
  exact Finset.sum_congr rfl fun c _ => by ring

theorem dd_comm (A B : Map) (i : Fin 8) (n m : Fin 576) : dd A B i n m = dd B A i m n :=
  Finset.sum_congr rfl fun c _ => by ring

/-- The points of the second map nearest to the first's. -/
def nn (A B : Map) : Map := fun i n c => B i (am (dd A B i n)) c

/-- A map less its mean over the batch. -/
def cen (A : Map) : Map := fun b n c => A b n c - (∑ k, A k n c) / 8

theorem cen_sum (A : Map) (n : Fin 576) (c : Fin 192) : ∑ b, cen A b n c = 0 := by
  unfold cen
  rw [Finset.sum_sub_distrib, Finset.sum_const, Finset.card_univ, Fintype.card_fin]
  simp only [nsmul_eq_mul]
  push_cast
  ring

theorem cen_cen (A : Map) : cen (cen A) = cen A := by
  funext b n c
  rw [cen, cen_sum]
  simp

/-- The sum over the batch of the squares. -/
def ss (Z : Map) (n : Fin 576) (c : Fin 192) : ℝ := ∑ b, Z b n c * Z b n c

theorem ss_nonneg (Z : Map) (n : Fin 576) (c : Fin 192) : 0 ≤ ss Z n c := Finset.sum_nonneg fun b _ => mul_self_nonneg _

/-- The mean hinge of the standard deviations. -/
def vr (Z : Map) : ℝ := (∑ n, ∑ c, max (1 - Real.sqrt (ss Z n c / 7 + eps)) 0) / 110592

/-- The variance term of a pair of sides. -/
def vT (A N : Map) : ℝ := 25 * (vr (cen A) / 2 + vr (cen N) / 2)

/-- The inner product of two batch rows of a centred map at one point. -/
def gr (Z : Map) (p q : Fin 8) (n : Fin 576) : ℝ := ∑ c, Z p n c * Z q n c

/-- The mass of the covariance off its diagonal. -/
def off (Z : Map) (n : Fin 576) : ℝ := (∑ p, ∑ q, gr Z p q n * gr Z p q n - ∑ c, ss Z n c * ss Z n c) / 49

/-- The covariance term of a pair of sides. -/
def cT (A N : Map) : ℝ := 1 * ((∑ n, (off (cen A) n / 192 / 2 + off (cen N) n / 192 / 2)) / 576)

/-- The mean squared distance to the nearest points, one direction. -/
def iT (A B : Map) : ℝ := 25 * ((∑ i, ∑ n, dd A B i n (am (dd A B i n))) / 884736)

/-- The sum of the squares of the inner products by channels is that by batch rows. -/
theorem gram_swap (Z : Map) (n : Fin 576) :
    ∑ c, ∑ d, (∑ p, Z p n c * Z p n d) * (∑ p, Z p n c * Z p n d) = ∑ p, ∑ q, gr Z p q n * gr Z p q n := by
  have h1 : ∀ c d : Fin 192, (∑ p, Z p n c * Z p n d) * (∑ p, Z p n c * Z p n d)
      = ∑ p, ∑ q, (Z p n c * Z q n c) * (Z p n d * Z q n d) := by
    intro c d
    rw [Finset.sum_mul_sum]
    exact Finset.sum_congr rfl fun p _ => Finset.sum_congr rfl fun q _ => by ring
  have h2 : ∀ p q : Fin 8, gr Z p q n * gr Z p q n = ∑ c, ∑ d, (Z p n c * Z q n c) * (Z p n d * Z q n d) := by
    intro p q
    rw [gr, Finset.sum_mul_sum]
  simp only [h1, h2]
  calc _ = ∑ c, ∑ p, ∑ d, ∑ q, (Z p n c * Z q n c) * (Z p n d * Z q n d) := Finset.sum_congr rfl fun c _ => Finset.sum_comm
    _ = ∑ p, ∑ c, ∑ d, ∑ q, (Z p n c * Z q n c) * (Z p n d * Z q n d) := Finset.sum_comm
    _ = ∑ p, ∑ c, ∑ q, ∑ d, (Z p n c * Z q n c) * (Z p n d * Z q n d) :=
        Finset.sum_congr rfl fun p _ => Finset.sum_congr rfl fun c _ => Finset.sum_comm
    _ = _ := Finset.sum_congr rfl fun p _ => Finset.sum_comm

/-- The covariance's mass off its diagonal, from the matrix of the channels. -/
theorem off_eq (Z : Map) (n : Fin 576) :
    ∑ c, ∑ d, ((∑ p, Z p n c * Z p n d) / 7) * ((∑ p, Z p n c * Z p n d) / 7) - ∑ c, ((∑ p, Z p n c * Z p n c) / 7) * ((∑ p, Z p n c * Z p n c) / 7)
      = off Z n := by
  have h1 : ∀ u : ℝ, u / 7 * (u / 7) = u * u / 49 := fun u => by ring
  simp only [h1, ← Finset.sum_div]
  rw [gram_swap, ← sub_div]
  rfl

end Cert.Num

end
-- ==== Proof.KernVal.lean ====
module

public import proofs.«01_k».proof.Proof.Kern
public import proofs.«01_k».proof.Proof.Reals

@[expose] public section

set_option maxRecDepth 16384

noncomputable section

open Idealize.ShloMosaic Idealize.ShloMosaic.TcCoe Idealize.SL.Sem

/-! The kernel's functions at blocks of real numbers. -/

namespace Cert.KernelIdeal.Val

open Cert.KernelIdeal Cert.KernelIdeal.Gen Cert.Num

/-- A block holds these reals. -/
def Holds (x : FVec Ideal S8x576x192 .f32) (A : Map) : Prop := ∀ b n c, x (ix3 b n c) = (A b n c : EReal)

variable {x y : FVec Ideal S8x576x192 .f32} {A B : Map}

theorem self_holds (hx : Holds x A) : Holds (self8 x) A := by
  intro b n c
  rw [← hx b n c]
  pointwise [self8]

theorem dist_at (hx : Holds x A) (hy : Holds y B) (i : Fin 8) (n m : Fin 576) : dist i x y (ix2 n m) = (dd A B i n m : EReal) := by
  pointwise [dist, distOf, normRow, norms, rowOf, low, self8]
  simp only [hx _ _ _, hy _ _ _, w2, ← EReal.coe_mul, ← coe_sum, ← EReal.coe_add, ← EReal.coe_sub, dd_eq]

theorem mnR_at (d : FVec Ideal S576x576 .f32) (f : Fin 576 → Fin 576 → ℝ) (hd : ∀ n m, d (ix2 n m) = (f n m : EReal)) (n : Fin 576) :
    mnR d (ix2 n 0) = (f n (am (f n)) : EReal) := by
  pointwise [mnR]
  simp only [hd, wTop]
  exact fold_min (f n)

theorem mnC_at (d : FVec Ideal S576x576 .f32) (f : Fin 576 → Fin 576 → ℝ) (hd : ∀ n m, d (ix2 n m) = (f m n : EReal)) (m : Fin 576) :
    mnC d (ix2 0 m) = (f m (am (f m)) : EReal) := by
  pointwise [mnC]
  simp only [hd, wTop]
  exact fold_min (f m)

theorem firstR_at (d : FVec Ideal S576x576 .f32) (f : Fin 576 → Fin 576 → ℝ) (hd : ∀ n m, d (ix2 n m) = (f n m : EReal)) (n : Fin 576) :
    firstR d (ix1 n) = BitVec.ofNat 32 (am (f n) : ℕ) := by
  pointwise [firstR, colNo]
  simp only [mnR_at d f hd, hd]
  exact fold_first (f n)

theorem firstC_at (d : FVec Ideal S576x576 .f32) (f : Fin 576 → Fin 576 → ℝ) (hd : ∀ n m, d (ix2 n m) = (f m n : EReal)) (m : Fin 576) :
    firstC d (ix1 m) = BitVec.ofNat 32 (am (f m) : ℕ) := by
  pointwise [firstC, rowNo]
  simp only [mnC_at d f hd, hd]
  exact fold_first (f m)

/-- The one of a one-hot table. -/
theorem hot (m k : Fin 576) :
    FloatOps.sitofp (F := Ideal) .f32 (BitVec.setWidth 32 (IntOp.cmpi CmpIPredicate.eq (BitVec.ofNat 32 (m : ℕ)) (BitVec.ofNat 32 (k : ℕ))))
      = if m = k then (1 : EReal) else 0 := by
  have h : (BitVec.ofNat 32 (m : ℕ) = BitVec.ofNat 32 (k : ℕ)) ↔ m = k := by
    constructor
    · intro e
      have e' := congrArg BitVec.toNat e
      simp only [BitVec.toNat_ofNat] at e'
      have := m.isLt; have := k.isLt
      exact Fin.ext (by omega)
    · rintro rfl; rfl
  by_cases e : m = k
  · subst e
    rw [if_pos rfl]
    have h1 : BitVec.setWidth 32 (IntOp.cmpi CmpIPredicate.eq (BitVec.ofNat 32 (m : ℕ)) (BitVec.ofNat 32 (m : ℕ))) = 1#32 := by simp [IntOp.cmpi]
    rw [h1]
    change (((1#32).toInt : ℝ) : EReal) = 1
    simp
  · have e' : ¬ (BitVec.ofNat 32 (m : ℕ) = BitVec.ofNat 32 (k : ℕ)) := fun q => e (h.1 q)
    rw [if_neg e]
    have h1 : IntOp.cmpi CmpIPredicate.eq (BitVec.ofNat 32 (m : ℕ)) (BitVec.ofNat 32 (k : ℕ)) = 0#1 := by
      simp only [IntOp.cmpi, beq_eq_false_iff_ne.2 e']
      rfl
    rw [h1]
    change (((BitVec.setWidth 32 0#1).toInt : ℝ) : EReal) = 0
    simp

theorem near1_at (hx : Holds x A) (hy : Holds y B) (i : Fin 8) (n : Fin 576) (c : Fin 192) :
    near1 x y i (ix2 n c) = (nn A B i n c : EReal) := by
  pointwise [near1, pickR, hotR, colNo, rowOf, low, self8]
  simp only [firstR_at _ (fun n m => dd A B i n m) (dist_at hx hy i), hot, ite_mul, one_mul, zero_mul]
  rw [Finset.sum_ite_eq' Finset.univ, if_pos (Finset.mem_univ _), hy]
  rfl

theorem near2_at (hx : Holds x A) (hy : Holds y B) (i : Fin 8) (n : Fin 576) (c : Fin 192) :
    near2 x y i (ix2 n c) = (nn B A i n c : EReal) := by
  pointwise [near2, pickC, hotC, rowNo, rowOf, low, self8]
  simp only [firstC_at _ (fun n m => dd B A i n m) (fun a b => (dist_at hx hy i a b).trans (by rw [dd_comm])), hot, ite_mul, one_mul, zero_mul]
  rw [Finset.sum_ite_eq' Finset.univ, if_pos (Finset.mem_univ _), hx]
  rfl

theorem stack1_holds (hx : Holds x A) (hy : Holds y B) : Holds (stack1 x y) (nn A B) :=
  fun i n c => (near1_at hx hy i n c)

theorem stack2_holds (hx : Holds x A) (hy : Holds y B) : Holds (stack2 x y) (nn B A) :=
  fun i n c => (near2_at hx hy i n c)

/-! ### The invariance term -/

theorem minStep_at (hx : Holds x A) (hy : Holds y B) (acc : Ideal .f32) (r : ℝ) (hr : acc = (r : EReal)) (i : Fin 8) :
    minStep x y acc i
      = ((r + ∑ n, dd A B i n (am (dd A B i n)) + ∑ m, dd B A i m (am (dd B A i m)) : ℝ) : EReal) := by
  subst hr
  unfold minStep
  have h1 : sumCol (mnR (dist i x y)) = ((∑ n, dd A B i n (am (dd A B i n)) : ℝ) : EReal) := by
    pointwise [sumCol]
    simp only [mnR_at _ (fun n m => dd A B i n m) (dist_at hx hy i), Finset.univ_unique, Finset.sum_singleton, coe_sum]
  have h2 : sumRow (mnC (dist i x y)) = ((∑ n, dd B A i n (am (dd B A i n)) : ℝ) : EReal) := by
    pointwise [sumRow]
    simp only [mnC_at _ (fun n m => dd B A i n m) (fun a b => (dist_at hx hy i a b).trans (by rw [dd_comm])), Finset.univ_unique, Finset.sum_singleton, coe_sum]
  rw [h1, h2, EReal.coe_add, EReal.coe_add]
  rfl

theorem inv_at (hx : Holds x A) (hy : Holds y B) : invK x y = ((iT A B / 2 + iT B A / 2 : ℝ) : EReal) := by
  unfold invK
  have h0 : Scalar.ofBits (F := Ideal) .f32 0x00000000#32 = ((0 : ℝ) : EReal) := by
    simpa using Ideal.ofBits_zero_f32
  rw [minStep_at hx hy _ _ (minStep_at hx hy _ _ (minStep_at hx hy _ _ (minStep_at hx hy _ _ (minStep_at hx hy _ _ (minStep_at hx hy _ _
    (minStep_at hx hy _ _ (minStep_at hx hy _ _ h0 0) 1) 2) 3) 4) 5) 6) 7]
  change Ideal.div (Ideal.ofBits .f32 0x41C80000#32 * _) (Ideal.ofBits .f32 0x49D80000#32) = _
  rw [w25, w1769472, ← EReal.coe_mul, div_coe _ (by norm_num)]
  congr 1
  unfold iT
  simp only [Fin.sum_univ_eight]
  ring

/-! ### The variance term -/

theorem cen_holds (hx : Holds x A) : Holds (cenK x) (cen A) := by
  intro b n c
  pointwise [cenK]
  simp only [hx _ _ _, w8, ← coe_sum]
  rw [div_coe _ (by norm_num), ← EReal.coe_sub]
  rfl

theorem sq_at (hx : Holds x A) (n : Fin 576) (c : Fin 192) : sqK x (ix2 n c) = (ss A n c : EReal) := by
  pointwise [sqK]
  simp only [hx _ _ _, ← EReal.coe_mul, ← coe_sum]
  rfl

theorem var_at (hx : Holds x A) : varK (sqK x) = (vr A : EReal) := by
  pointwise [varK]
  simp only [sq_at hx, w7, w110592, wEps]
  have h : ∀ n c, max (1 - Ideal.sqrt (Ideal.div (ss A n c : EReal) ((7 : ℝ) : EReal) + (eps : EReal))) 0
      = ((max (1 - Real.sqrt (ss A n c / 7 + eps)) 0 : ℝ) : EReal) := by
    intro n c
    have h7 : 0 ≤ ss A n c / 7 + eps := add_nonneg (div_nonneg (ss_nonneg A n c) (by norm_num)) eps_nonneg
    rw [div_coe _ (by norm_num), ← EReal.coe_add, sqrt_coe h7, ← EReal.coe_one, ← EReal.coe_sub, ← EReal.coe_zero, max_coe]
  simp only [h, ← coe_sum]
  rw [div_coe _ (by norm_num)]
  rfl

theorem v_at (hx : Holds x A) (hy : Holds y B) : vK x y = (vT A B : EReal) := by
  unfold vK
  rw [var_at (cen_holds hx), var_at (cen_holds hy)]
  change Ideal.ofBits .f32 0x41C80000#32 * (Ideal.div _ (Ideal.ofBits .f32 0x40000000#32) + Ideal.div _ (Ideal.ofBits .f32 0x40000000#32)) = _
  rw [w25, w2, div_coe _ (by norm_num), div_coe _ (by norm_num), ← EReal.coe_add, ← EReal.coe_mul]
  rfl

/-! ### The covariance term -/

theorem gramD_at (hx : Holds x A) (acc : FVec Ideal S576 .f32) (n : Fin 576) (r : ℝ) (hr : acc (ix1 n) = (r : EReal)) (p : Fin 8) :
    gramD x acc p (ix1 n) = ((r + gr A p p n * gr A p p n : ℝ) : EReal) := by
  pointwise [gramD, chan, rowOf]
  simp only [hx _ _ _, hr, ← EReal.coe_mul, ← coe_sum, ← EReal.coe_add]
  rfl

theorem gramO_at (hx : Holds x A) (acc : FVec Ideal S576 .f32) (n : Fin 576) (r : ℝ) (hr : acc (ix1 n) = (r : EReal)) (p q : Fin 8) :
    gramO x p acc q (ix1 n) = ((r + 2 * (gr A p q n * gr A p q n) : ℝ) : EReal) := by
  pointwise [gramO, chan, rowOf]
  simp only [hx _ _ _, hr, w2, ← EReal.coe_mul, ← coe_sum, ← EReal.coe_add]
  rfl

theorem gramRow_at (hx : Holds x A) (n : Fin 576) (p : Fin 8) (l : List (Fin 8)) : ∀ (acc : FVec Ideal S576 .f32) (r : ℝ), acc (ix1 n) = (r : EReal) →
    l.foldl (gramO x p) acc (ix1 n) = ((r + (l.map fun q => 2 * (gr A p q n * gr A p q n)).sum : ℝ) : EReal) := by
  induction l with
  | nil => intro acc r hr; simpa using hr
  | cons q l ih =>
    intro acc r hr
    rw [List.foldl_cons, ih _ _ (gramO_at hx acc n r hr p q), List.map_cons, List.sum_cons, add_assoc]

theorem gramAll_at (hx : Holds x A) (n : Fin 576) (l : List (Fin 8 × List (Fin 8))) : ∀ (acc : FVec Ideal S576 .f32) (r : ℝ), acc (ix1 n) = (r : EReal) →
    l.foldl (fun acc p => p.2.foldl (gramO x p.1) (gramD x acc p.1)) acc (ix1 n)
      = ((r + (l.map fun p => gr A p.1 p.1 n * gr A p.1 p.1 n + (p.2.map fun q => 2 * (gr A p.1 q n * gr A p.1 q n)).sum).sum : ℝ) : EReal) := by
  induction l with
  | nil => intro acc r hr; simpa using hr
  | cons p l ih =>
    intro acc r hr
    rw [List.foldl_cons, ih _ _ (gramRow_at hx n p.1 p.2 _ _ (gramD_at hx acc n r hr p.1)), List.map_cons, List.sum_cons]
    congr 1
    ring

theorem gr_comm (Z : Map) (p q : Fin 8) (n : Fin 576) : gr Z p q n = gr Z q p n :=
  Finset.sum_congr rfl fun c _ => mul_comm _ _

theorem gram_at (hx : Holds x A) (n : Fin 576) : gramK x (ix1 n) = ((∑ p, ∑ q, gr A p q n * gr A p q n : ℝ) : EReal) := by
  have h0 : (broadcast S576 (Scalar.ofBits (F := Ideal) .f32 0x00000000#32) : FVec Ideal S576 .f32) (ix1 n) = ((0 : ℝ) : EReal) := by
    change Ideal.ofBits .f32 0x00000000#32 = _
    simp
  unfold gramK
  rw [gramAll_at hx n pairs _ 0 h0]
  congr 1
  simp only [pairs, List.map_cons, List.map_nil, List.sum_cons, List.sum_nil, Fin.sum_univ_eight]
  simp only [gr_comm A 1 0, gr_comm A 2 0, gr_comm A 3 0, gr_comm A 4 0, gr_comm A 5 0, gr_comm A 6 0, gr_comm A 7 0,
    gr_comm A 2 1, gr_comm A 3 1, gr_comm A 4 1, gr_comm A 5 1, gr_comm A 6 1, gr_comm A 7 1,
    gr_comm A 3 2, gr_comm A 4 2, gr_comm A 5 2, gr_comm A 6 2, gr_comm A 7 2,
    gr_comm A 4 3, gr_comm A 5 3, gr_comm A 6 3, gr_comm A 7 3,
    gr_comm A 5 4, gr_comm A 6 4, gr_comm A 7 4, gr_comm A 6 5, gr_comm A 7 5, gr_comm A 7 6]
  ring

theorem off_at (hx : Holds x A) (n : Fin 576) : offK x (ix1 n) = (off A n : EReal) := by
  pointwise [offK, chan]
  simp only [gram_at hx, sq_at hx, w49, ← EReal.coe_mul, ← coe_sum, ← EReal.coe_sub]
  rw [div_coe _ (by norm_num)]
  rfl

theorem share_at (hx : Holds x A) (n : Fin 576) : shareK (offK x) (ix1 n) = ((off A n / 192 / 2 : ℝ) : EReal) := by
  pointwise [shareK]
  rw [off_at hx, w192, w2, div_coe _ (by norm_num), div_coe _ (by norm_num)]

theorem c_at (hx : Holds x A) (hy : Holds y B) : cK x y = (cT A B : EReal) := by
  pointwise [cK]
  simp only [share_at (cen_holds hx), share_at (cen_holds hy), w576, ← EReal.coe_add, ← coe_sum]
  rw [div_coe _ (by norm_num), cT, one_mul]

theorem avg_at (u v : Ideal .f32) (a b : ℝ) (hu : u = (a : EReal)) (hv : v = (b : EReal)) : avgK u v = ((a / 2 + b / 2 : ℝ) : EReal) := by
  subst hu; subst hv
  change Ideal.div _ (Ideal.ofBits .f32 0x40000000#32) + Ideal.div _ (Ideal.ofBits .f32 0x40000000#32) = _
  rw [w2, div_coe _ (by norm_num), div_coe _ (by norm_num), ← EReal.coe_add]

/-! ### The output row -/

theorem row_0 (u v w : Ideal .f32) : rowK u v w (ix2 0 0) = u := by
  pointwise [rowK, lanes]
theorem row_1 (u v w : Ideal .f32) : rowK u v w (ix2 0 1) = v := by
  pointwise [rowK, lanes]; rfl
theorem row_2 (u v w : Ideal .f32) : rowK u v w (ix2 0 2) = w := by
  pointwise [rowK, lanes]; rfl

/-- The three terms at real blocks. -/
theorem out_0 (hx : Holds x A) (hy : Holds y B) :
    outOf x y (stack1 x y) (stack2 x y) (ix2 0 0) = ((iT A B / 2 + iT B A / 2 : ℝ) : EReal) := by
  unfold outOf
  rw [row_0, inv_at hx hy]

theorem out_1 (hx : Holds x A) (hy : Holds y B) :
    outOf x y (stack1 x y) (stack2 x y) (ix2 0 1) = ((vT A (nn A B) / 2 + vT B (nn B A) / 2 : ℝ) : EReal) := by
  unfold outOf
  rw [row_1]
  exact avg_at _ _ _ _ (v_at (self_holds hx) (stack1_holds hx hy)) (v_at (self_holds hy) (stack2_holds hx hy))

theorem out_2 (hx : Holds x A) (hy : Holds y B) :
    outOf x y (stack1 x y) (stack2 x y) (ix2 0 2) = ((cT A (nn A B) / 2 + cT B (nn B A) / 2 : ℝ) : EReal) := by
  unfold outOf
  rw [row_2]
  exact avg_at _ _ _ _ (c_at (self_holds hx) (stack1_holds hx hy)) (c_at (self_holds hy) (stack2_holds hx hy))

end Cert.KernelIdeal.Val

end
-- ==== Proof.RefVal.lean ====
module

public import proofs.«01_k».proof.Proof.RefFn
public import proofs.«01_k».proof.Proof.Reals

@[expose] public section

set_option maxRecDepth 16384

noncomputable section

open Idealize.ShloMosaic Idealize.ShloMosaic.TcCoe Idealize.SL.Sem

/-! The reference's functions at maps of real numbers. -/

namespace Cert.ReferenceIdeal.Val

open Cert.ReferenceIdeal Cert.ReferenceIdeal.Gen Cert.Num

/-- A map holds these reals. -/
def Holds (x : FVec Ideal S8x576x192 .f32) (A : Map) : Prop := ∀ b n c, x (ix3 b n c) = (A b n c : EReal)

variable {x y : FVec Ideal S8x576x192 .f32} {A B : Map}

theorem dist_at (hx : Holds x A) (hy : Holds y B) (i : Fin 8) (n m : Fin 576) : dist x y (ix3 i n m) = (dd A B i n m : EReal) := by
  pointwise [dist, norms, z0]
  simp only [hx _ _ _, hy _ _ _, w2, ← EReal.coe_mul, ← coe_sum, ← EReal.coe_add, ← EReal.coe_sub, dd_eq]

/-! ### The least position -/

/-- Of two pairs of a value and a position the reference's choice: the first if it is less in value, or equal in value and less in position. -/
theorem red_eq (a b : EReal × BitVec 32) :
    reducer_argmin_f32_i32 (F := Ideal) a b = if a.1 < b.1 ∨ (a.1 = b.1 ∧ a.2.toInt < b.2.toInt) then a else b := by
  obtain ⟨a1, a2⟩ := a
  obtain ⟨b1, b2⟩ := b
  have hlt : FloatOps.cmpf (F := Ideal) (φ := .f32) .olt a1 b1 = BitVec.ofBool (decide (a1 < b1)) := rfl
  have hne : FloatOps.cmpf (F := Ideal) (φ := .f32) .une a1 a1 = 0#1 := by simp [Ideal.cmpf_def, Ideal.cmp]
  have heq : FloatOps.cmpf (F := Ideal) (φ := .f32) .oeq a1 b1 = BitVec.ofBool (decide (a1 = b1)) := rfl
  have hsl : IntOp.cmpi .slt a2 b2 = BitVec.ofBool (decide (a2.toInt < b2.toInt)) := rfl
  unfold reducer_argmin_f32_i32
  simp only [hlt, hne, heq, hsl]
  by_cases h1 : a1 < b1
  · have hor : ∀ z : BitVec 1, 1#1 ||| z = 1#1 := by decide
    simp [h1, hor, IntOp.ori, IntOp.andi, Scalar.select]
  · by_cases h2 : a1 = b1
    · subst h2
      by_cases h3 : a2.toInt < b2.toInt
      · simp [h3, IntOp.ori, IntOp.andi, Scalar.select]
      · simp [h3, IntOp.ori, IntOp.andi, Scalar.select]
    · simp [h1, h2, IntOp.ori, IntOp.andi, Scalar.select]

/-- A pair comes no later than another: less in value, or equal in value and not after it. -/
def Before (p q : EReal × BitVec 32) : Prop := p.1 < q.1 ∨ (p.1 = q.1 ∧ p.2.toInt ≤ q.2.toInt)

theorem before_refl (p : EReal × BitVec 32) : Before p p := Or.inr ⟨rfl, le_rfl⟩

theorem before_trans {p q r : EReal × BitVec 32} (h : Before p q) (h' : Before q r) : Before p r := by
  unfold Before at *
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

theorem red_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  rw [red_eq]
  split
  · next h => exact ⟨Or.inl rfl, before_refl a, h.imp id fun h => ⟨h.1, h.2.le⟩⟩
  · next h =>
    refine ⟨Or.inr rfl, ?_, before_refl b⟩
    rw [not_or, not_and] at h
    rcases lt_or_eq_of_le (not_lt.1 h.1) with k | k
    · exact Or.inl k
    · exact Or.inr ⟨k, not_lt.1 (h.2 k.symm)⟩

/-- The choice along a list is one of its pairs or the first, and comes no later than any. -/
theorem fold_spec (l : List (EReal × BitVec 32)) : ∀ p : EReal × BitVec 32,
    (l.foldl (reducer_argmin_f32_i32 (F := Ideal)) p = p ∨ l.foldl (reducer_argmin_f32_i32 (F := Ideal)) p ∈ l)
      ∧ Before (l.foldl (reducer_argmin_f32_i32 (F := Ideal)) p) p
      ∧ ∀ q ∈ l, Before (l.foldl (reducer_argmin_f32_i32 (F := Ideal)) p) q := by
  induction l with
  | nil => exact fun p => ⟨Or.inl rfl, before_refl p, by simp⟩
  | cons a l ih =>
    intro p
    rw [List.foldl_cons]
    obtain ⟨h1, h2, h3⟩ := ih (reducer_argmin_f32_i32 (F := Ideal) p a)
    obtain ⟨k1, k2, k3⟩ := red_spec p a
    refine ⟨?_, before_trans h2 k2, ?_⟩
    · rcases h1 with h1 | h1
      · rw [h1]
        rcases k1 with k1 | k1
        · exact Or.inl k1
        · exact Or.inr (by rw [k1]; exact List.mem_cons_self)
      · exact Or.inr (List.mem_cons_of_mem _ h1)
    · intro q hq
      rcases List.mem_cons.1 hq with rfl | hq
      · exact before_trans h2 k3
      · exact h3 q hq

theorem drop_at (i : Fin 8) (n m : Fin 576) : reducesTo_S8x576x576_S8x576_d2.drop (ix3 i n m) = ix2 i n := by
  funext a
  match a with
  | ⟨0, _⟩ => rfl
  | ⟨1, _⟩ => rfl

theorem mem_fiber (d : FVec Ideal S8x576x576 .f32) (i : Fin 8) (n : Fin 576) (p : EReal × BitVec 32) :
    p ∈ Host.argReduceFiber d (iotaInDim S8x576x576 32 2) reducesTo_S8x576x576_S8x576_d2 (ix2 i n)
      ↔ ∃ m : Fin 576, p = (d (ix3 i n m), BitVec.ofNat 32 (m : ℕ)) := by
  unfold Host.argReduceFiber
  simp only [List.mem_map, List.mem_filter, List.mem_finRange, true_and, decide_eq_true_eq]
  constructor
  · rintro ⟨k, hk, rfl⟩
    generalize hj : S8x576x576.rowMajor.symm k = j at hk ⊢
    obtain ⟨a, b, m, rfl⟩ : ∃ (a : Fin 8) (b m : Fin 576), j = ix3 a b m := ⟨j 0, j 1, j 2, eq_ix3 j⟩
    have hk' := (drop_at a b m).symm.trans hk
    obtain rfl : a = i := congrFun hk' 0
    obtain rfl : b = n := congrFun hk' 1
    exact ⟨m, rfl⟩
  · rintro ⟨m, rfl⟩
    exact ⟨S8x576x576.rowMajor (ix3 i n m), by rw [Equiv.symm_apply_apply]; exact drop_at i n m, by rw [Equiv.symm_apply_apply]; rfl⟩

/-- The choice along a list of all positions with their values is the first least one. -/
theorem list_least (l : List (EReal × BitVec 32)) (f : Fin 576 → ℝ) (hm : ∀ p, p ∈ l ↔ ∃ m : Fin 576, p = ((f m : EReal), BitVec.ofNat 32 (m : ℕ)))
    (p : EReal × BitVec 32) (hp : p.1 = ⊤) : (l.foldl (reducer_argmin_f32_i32 (F := Ideal)) p).2 = BitVec.ofNat 32 (am f : ℕ) := by
  obtain ⟨h1, h2, h3⟩ := fold_spec l p
  generalize l.foldl (reducer_argmin_f32_i32 (F := Ideal)) p = r at h1 h2 h3 ⊢
  have hb : ∀ m : Fin 576, Before r ((f m : EReal), BitVec.ofNat 32 (m : ℕ)) := fun m => h3 _ ((hm _).2 ⟨m, rfl⟩)
  have hr : r ∈ l := by
    rcases h1 with h1 | h1
    · exfalso
      subst h1
      rcases hb 0 with h | ⟨h, -⟩
      · exact absurd h (by rw [hp]; exact not_lt.2 le_top)
      · exact EReal.coe_ne_top _ (h.symm.trans hp)
    · exact h1
  obtain ⟨k, rfl⟩ := (hm r).1 hr
  have : k = am f := by
    refine eq_am _ k (fun m => ?_) (fun m h => ?_)
    · rcases hb m with h | ⟨h, -⟩
      · exact (EReal.coe_lt_coe_iff.1 h).le
      · exact (EReal.coe_eq_coe_iff.1 h).le
    · rcases hb m with h' | ⟨-, h'⟩
      · exact absurd (EReal.coe_lt_coe_iff.1 h') (by rw [h]; exact lt_irrefl _)
      · have e1 := toInt_small (k : ℕ) (by have := k.isLt; omega)
        have e2 := toInt_small (m : ℕ) (by have := m.isLt; omega)
        simp only [e1, e2] at h'
        exact_mod_cast h'
  rw [this]

theorem argmin_at (d : FVec Ideal S8x576x576 .f32) (f : Fin 8 → Fin 576 → Fin 576 → ℝ) (hd : ∀ i n m, d (ix3 i n m) = (f i n m : EReal))
    (i : Fin 8) (n : Fin 576) : argmin d (ix2 i n) = BitVec.ofNat 32 (am (f i n) : ℕ) := by
  have e := (congrFun (Ideal.argReduce_eq_reduce2 reducer_argmin_f32_i32 d (iotaInDim S8x576x576 32 2) (constant S_ .f32 0x7F800000#32) (constantI S_ 32 0#32)
    reducesTo_S8x576x576_S8x576_d2 h_S_) (ix2 i n)).trans
    (Host.reduce2_eq_foldl_fiber reducer_argmin_f32_i32 d (iotaInDim S8x576x576 32 2) (constant S_ .f32 0x7F800000#32) (constantI S_ 32 0#32)
      reducesTo_S8x576x576_S8x576_d2 h_S_ (ix2 i n))
  refine (congrArg Prod.snd e).trans (list_least _ (f i n) (fun p => ?_) _ wTop)
  rw [mem_fiber]
  simp only [hd]

/-! ### The points at the least positions -/

theorem wrap_at (p : IVec S8x576 32) (i : Fin 8) (n k : Fin 576) (c : Fin 192) (z : Fin 1) (hp : p (ix2 i n) = BitVec.ofNat 32 (k : ℕ)) :
    wrap (perChan p) (ix4 i n c z) = BitVec.ofNat 32 (k : ℕ) := by
  obtain rfl : z = 0 := Subsingleton.elim _ _
  pointwise [wrap, perChan]
  rw [hp]
  have h : IntOp.cmpi CmpIPredicate.slt (BitVec.ofNat 32 (k : ℕ)) 0#32 = 0#1 := by
    have e1 := toInt_small (k : ℕ) (by have := k.isLt; omega)
    simp only [IntOp.cmpi, BitVec.slt, e1]
    rw [decide_eq_false (not_lt.2 (by simp))]
    rfl
  rw [h]
  rfl

theorem inside_at (q : IVec S8x576x192x1 32) (i : Fin 8) (n k : Fin 576) (c : Fin 192) (hq : ∀ z, q (ix4 i n c z) = BitVec.ofNat 32 (k : ℕ)) :
    inside q (ix3 i n c) = 1#1 := by
  pointwise [inside]
  simp only [hq]
  have e1 := toInt_small (k : ℕ) (by have := k.isLt; omega)
  have h1 : IntOp.cmpi CmpIPredicate.sge (BitVec.ofNat 32 (k : ℕ)) 0#32 = 1#1 := by
    simp only [IntOp.cmpi, BitVec.sle, e1]
    simp
  have h2 : IntOp.cmpi CmpIPredicate.sle (BitVec.ofNat 32 (k : ℕ)) 575#32 = 1#1 := by
    have e2 : (575#32).toInt = 575 := by decide
    simp only [IntOp.cmpi, BitVec.sle, e1, e2]
    have := k.isLt
    have : ((k : ℕ) : ℤ) ≤ 575 := by omega
    simp [this]
  rw [h1, h2]
  rfl

/-- The gather of the points, at an index. -/
theorem gather_at (x : FVec Ideal S8x576x192 .f32) (q : IVec S8x576x192x1 32) (i : Fin 8) (n k : Fin 576) (c : Fin 192)
    (hq : ∀ z, q (ix4 i n c z) = BitVec.ofNat 32 (k : ℕ)) :
    Host.gather gather_S8x576x192_S8x576x192x1_S8x576x192_n_1_02_02_1_3_111 x q (ix3 i n c) = x (ix3 i k c) := by
  unfold Host.gather
  congr 1
  funext a
  refine Fin.ext ?_
  change gather_S8x576x192_S8x576x192x1_S8x576x192_n_1_02_02_1_3_111.start (ix3 i n c) q a
    + gather_S8x576x192_S8x576x192x1_S8x576x192_n_1_02_02_1_3_111.batchCoord (ix3 i n c) a
    + gather_S8x576x192_S8x576x192x1_S8x576x192_n_1_02_02_1_3_111.offCoord (ix3 i n c) a = _
  obtain rfl | rfl | rfl : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  · rw [GatherDims.start_batching _ _ _ _ (by decide), GatherDims.offCoord_eq_zero _ _ _ (by decide)]
    unfold GatherDims.batchCoord
    rw [dif_pos (by decide), Nat.zero_add, Nat.add_zero]
    rfl
  · rw [GatherDims.batchCoord_eq_zero _ _ _ (by decide), GatherDims.offCoord_eq_zero _ _ _ (by decide)]
    simp only [Nat.add_zero]
    unfold GatherDims.start
    rw [dif_pos (by decide)]
    have hs : gather_S8x576x192_S8x576x192x1_S8x576x192_n_1_02_02_1_3_111.siIdx (ix3 i n c)
        ⟨List.idxOf (1 : Fin 3) gather_S8x576x192_S8x576x192x1_S8x576x192_n_1_02_02_1_3_111.startIndexMap, by decide⟩ = ix4 i n c 0 := by
      funext b; refine Fin.ext ?_
      match b with
      | ⟨0, _⟩ => rfl
      | ⟨1, _⟩ => rfl
      | ⟨2, _⟩ => rfl
      | ⟨3, _⟩ => rfl
    have hv : q (gather_S8x576x192_S8x576x192x1_S8x576x192_n_1_02_02_1_3_111.siIdx (ix3 i n c)
        ⟨List.idxOf (1 : Fin 3) gather_S8x576x192_S8x576x192x1_S8x576x192_n_1_02_02_1_3_111.startIndexMap, by decide⟩)
        = BitVec.ofNat 32 (k : ℕ) := by rw [hs]; exact hq 0
    refine (congrArg (fun v : BitVec 32 => min v.toInt.toNat (576 - 1)) hv).trans ?_
    simp only [toInt_small (k : ℕ) (by have := k.isLt; omega)]
    have := k.isLt
    change min (k : ℕ) 575 = (k : ℕ)
    omega
  · rw [GatherDims.start_batching _ _ _ _ (by decide), GatherDims.offCoord_eq_zero _ _ _ (by decide)]
    unfold GatherDims.batchCoord
    rw [dif_pos (by decide), Nat.zero_add, Nat.add_zero]
    rfl

theorem take_at (x : FVec Ideal S8x576x192 .f32) (p : IVec S8x576 32) (i : Fin 8) (n k : Fin 576) (c : Fin 192)
    (hp : p (ix2 i n) = BitVec.ofNat 32 (k : ℕ)) : take x (perChan p) (ix3 i n c) = x (ix3 i k c) := by
  have hw : ∀ z, wrap (perChan p) (ix4 i n c z) = BitVec.ofNat 32 (k : ℕ) := fun z => wrap_at p i n k c z hp
  unfold take
  change Scalar.select (inside (wrap (perChan p)) (ix3 i n c)) _ _ = _
  rw [inside_at _ i n k c hw, gather_at x _ i n k c hw]
  rfl

theorem near_holds (hx : Holds x A) (hy : Holds y B) : Holds (near x y) (nn A B) := by
  intro i n c
  unfold near
  rw [take_at y _ i n (am (dd A B i n)) c (argmin_at _ (fun i n m => dd A B i n m) (dist_at hx hy) i n), hy]
  rfl

/-! ### The invariance term -/

theorem repr_at (hx : Holds x A) (hy : Holds y (nn A B)) : repr x y ix0 = (iT A B : EReal) := by
  pointwise [repr, z0]
  simp only [hx _ _ _, hy _ _ _, w25, w884736, ← EReal.coe_sub, ← EReal.coe_mul, ← coe_sum]
  rw [div_coe _ (by norm_num), ← EReal.coe_mul]
  rfl

/-! ### The variance term -/

theorem cen_holds (hx : Holds x A) : Holds (Val.cen x) (Num.cen A) := by
  intro b n c
  pointwise [Val.cen, z0]
  simp only [hx _ _ _, w8, ← coe_sum]
  rw [div_coe _ (by norm_num), ← EReal.coe_sub]
  rfl

theorem cenV_holds (hx : Holds x A) : Holds (cenV x) (Num.cen A) := by
  intro b n c
  pointwise [cenV, z0]
  simp only [hx _ _ _, w8, ← coe_sum]
  rw [div_coe _ (by norm_num), ← EReal.coe_sub]
  rfl

theorem dof_eq : Ideal.ofBits .f32 0x41000000#32 - FloatOps.sitofp (F := Ideal) .f32 (1#32) = ((7 : ℝ) : EReal) := by
  rw [w8]
  change ((8 : ℝ) : EReal) - (((1#32).toInt : ℝ) : EReal) = _
  rw [← EReal.coe_sub]
  norm_num

theorem var_at (hx : Holds x A) (n : Fin 576) (c : Fin 192) : varF x (ix2 n c) = ((ss (Num.cen A) n c / 7 : ℝ) : EReal) := by
  pointwise [varF, dof, z0]
  rw [dof_eq, if_pos (by exact_mod_cast (by norm_num : (0 : ℝ) < 7))]
  simp only [cenV_holds hx _ _ _, ← EReal.coe_mul, ← coe_sum]
  rw [div_coe _ (by norm_num)]
  rfl

theorem stdT_at (hx : Holds x A) : stdT (Val.cen x) ix0 = ((vr (Num.cen A) / 2 : ℝ) : EReal) := by
  pointwise [stdT, z0]
  have h : ∀ n c, hinge (Val.cen x) (ix2 n c) = ((max (1 - Real.sqrt (ss (Num.cen A) n c / 7 + eps)) 0 : ℝ) : EReal) := by
    intro n c
    pointwise [hinge, z0]
    have h7 : 0 ≤ ss (Num.cen A) n c / 7 + eps := add_nonneg (div_nonneg (ss_nonneg _ n c) (by norm_num)) eps_nonneg
    rw [var_at (cen_holds hx), cen_cen, wEps, ← EReal.coe_add, sqrt_coe h7, ← EReal.coe_one, ← EReal.coe_sub, ← EReal.coe_zero, max_coe]
  simp only [h, w110592, w2, ← coe_sum]
  rw [div_coe _ (by norm_num), div_coe _ (by norm_num)]
  rfl

theorem std_at (hx : Holds x A) (hy : Holds y B) : std x y ix0 = (vT A B : EReal) := by
  pointwise [std]
  rw [stdT_at hx, stdT_at hy, w25, ← EReal.coe_add, ← EReal.coe_mul]
  rfl

/-! ### The covariance term -/

theorem cenP_at (hx : Holds x A) (b : Fin 8) (n : Fin 576) (c : Fin 192) : cenP (byPoint x) (ix3 n b c) = (Num.cen A b n c : EReal) := by
  have h : ∀ n b c, byPoint x (ix3 n b c) = (A b n c : EReal) := by
    intro n b c
    rw [← hx b n c]
    pointwise [byPoint]
  pointwise [cenP, z0]
  simp only [h, w8, ← coe_sum]
  rw [div_coe _ (by norm_num), ← EReal.coe_sub]
  rfl

theorem covOf_at (hx : Holds x A) (n : Fin 576) (c d : Fin 192) :
    covOf x (ix3 n c d) = (((∑ p, Num.cen A p n c * Num.cen A p n d) / 7 : ℝ) : EReal) := by
  pointwise [covOf, covM]
  simp only [cenP_at (cen_holds hx), cen_cen, w7, ← EReal.coe_mul, ← coe_sum]
  rw [div_coe _ (by norm_num)]

theorem chanNo_at (c : Fin 192) : chanNo (ix1 c) = BitVec.ofNat 32 (c : ℕ) := by
  pointwise [chanNo]
  have h : IntOp.cmpi CmpIPredicate.slt (BitVec.ofNat 32 (c : ℕ)) 0#32 = 0#1 := by
    have e1 := toInt_small (c : ℕ) (by have := c.isLt; omega)
    simp only [IntOp.cmpi, BitVec.slt, e1]
    rw [decide_eq_false (not_lt.2 (by simp))]
    rfl
  rw [h]
  rfl

theorem diagIdx_0 (c : Fin 192) : diagIdx (ix2 c 0) = BitVec.ofNat 32 (c : ℕ) := by
  pointwise [diagIdx]
  exact chanNo_at c
theorem diagIdx_1 (c : Fin 192) : diagIdx (ix2 c 1) = BitVec.ofNat 32 (c : ℕ) := by
  pointwise [diagIdx]
  exact chanNo_at c

/-- The diagonal of a matrix, at an index. -/
theorem diag_at (q : FVec Ideal S576x192x192 .f32) (n : Fin 576) (c : Fin 192) : diag q (ix2 n c) = q (ix3 n c c) := by
  unfold diag Host.gather
  congr 1
  funext a
  refine Fin.ext ?_
  change gather_S576x192x192_S192x2_S576x192_0_12_n_n_12_1_57611.start (ix2 n c) diagIdx a
    + gather_S576x192x192_S192x2_S576x192_0_12_n_n_12_1_57611.batchCoord (ix2 n c) a
    + gather_S576x192x192_S192x2_S576x192_0_12_n_n_12_1_57611.offCoord (ix2 n c) a = _
  rw [GatherDims.batchCoord_eq_zero _ _ _ List.not_mem_nil, Nat.add_zero]
  have hc : ∀ v : BitVec 32, v = BitVec.ofNat 32 (c : ℕ) → min v.toInt.toNat (192 - 1) = (c : ℕ) := by
    rintro v rfl
    have := c.isLt
    rw [toInt_small (c : ℕ) (by omega)]
    change min (c : ℕ) 191 = (c : ℕ)
    omega
  obtain rfl | rfl | rfl : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    refine hc _ ((congrArg diagIdx (?_ : _ = ix2 c 0)).trans (diagIdx_0 c))
    funext b; refine Fin.ext ?_
    match b with
    | ⟨0, _⟩ => rfl
    | ⟨1, _⟩ => rfl
  · rw [GatherDims.offCoord_eq_zero _ _ _ (by decide), Nat.add_zero]
    unfold GatherDims.start
    rw [dif_pos (by decide)]
    refine hc _ ((congrArg diagIdx (?_ : _ = ix2 c 1)).trans (diagIdx_1 c))
    funext b; refine Fin.ext ?_
    match b with
    | ⟨0, _⟩ => rfl
    | ⟨1, _⟩ => rfl

theorem off_at (hx : Holds x A) (n : Fin 576) : offD (covOf x) (ix1 n) = (off (Num.cen A) n : EReal) := by
  pointwise [offD, z0]
  simp only [diag_at, covOf_at hx, ← EReal.coe_mul, ← coe_sum, ← EReal.coe_sub]
  rw [off_eq]

theorem share_at (hx : Holds x A) (n : Fin 576) : share (covOf x) (ix1 n) = ((off (Num.cen A) n / 192 / 2 : ℝ) : EReal) := by
  pointwise [share, z0]
  rw [off_at hx, w192, w2, div_coe _ (by norm_num), div_coe _ (by norm_num)]

theorem cov_at (hx : Holds x A) (hy : Holds y B) : cov x y ix0 = (cT A B : EReal) := by
  pointwise [cov, z0]
  simp only [share_at hx, share_at hy, w576, ← EReal.coe_add, ← coe_sum]
  rw [div_coe _ (by norm_num), cT, one_mul]

theorem avg_at (u v : FVec Ideal S_ .f32) (a b : ℝ) (hu : u ix0 = (a : EReal)) (hv : v ix0 = (b : EReal)) :
    avg u v ix0 = ((a / 2 + b / 2 : ℝ) : EReal) := by
  pointwise [avg]
  rw [hu, hv, w2, div_coe _ (by norm_num), div_coe _ (by norm_num), ← EReal.coe_add]

/-! ### The three results -/

theorem three_0 (u v w : FVec Ideal S_ .f32) : three u v w (ix1 0) = u ix0 := by pointwise [three]
theorem three_1 (u v w : FVec Ideal S_ .f32) : three u v w (ix1 1) = v ix0 := by pointwise [three]
theorem three_2 (u v w : FVec Ideal S_ .f32) : three u v w (ix1 2) = w ix0 := by pointwise [three]

theorem res_0 (hx : Holds x A) (hy : Holds y B) :
    resOf x y (near x y) (near y x) (ix1 0) = ((iT A B / 2 + iT B A / 2 : ℝ) : EReal) := by
  unfold resOf
  rw [three_0]
  exact avg_at _ _ _ _ (repr_at hx (near_holds hx hy)) (repr_at hy (near_holds hy hx))

theorem res_1 (hx : Holds x A) (hy : Holds y B) :
    resOf x y (near x y) (near y x) (ix1 1) = ((vT A (nn A B) / 2 + vT B (nn B A) / 2 : ℝ) : EReal) := by
  unfold resOf
  rw [three_1]
  exact avg_at _ _ _ _ (std_at hx (near_holds hx hy)) (std_at hy (near_holds hy hx))

theorem res_2 (hx : Holds x A) (hy : Holds y B) :
    resOf x y (near x y) (near y x) (ix1 2) = ((cT A (nn A B) / 2 + cT B (nn B A) / 2 : ℝ) : EReal) := by
  unfold resOf
  rw [three_2]
  exact avg_at _ _ _ _ (cov_at hx (near_holds hx hy)) (cov_at hy (near_holds hy hx))

end Cert.ReferenceIdeal.Val

end
-- ==== Proof.Value.lean ====
module

public import proofs.«01_k».proof.Proof.KernOut
public import proofs.«01_k».proof.Proof.KernVal
public import proofs.«01_k».proof.Proof.RefVal
public import proofs.«01_k».proof.Pre_finite

@[expose] public section

set_option maxRecDepth 16384

noncomputable section

open Idealize.ShloMosaic Idealize.ShloMosaic.TcCoe Idealize.SL.Sem

/-! The kernel's result is the reference's on maps without infinite entries. -/

namespace Cert.Joint

open Cert.Num

/-- The one side condition the precondition states. -/
theorem preFacts : Cert.Pre_finite.Facts := ⟨by decide⟩

/-- An array without infinite entries. -/
def Real5 (a : FVec Ideal Cert.KernelIdeal.S4x2x192x24x24 .f32) : Prop := ∀ j, a j ≠ ⊤ ∧ a j ≠ ⊥

theorem real_of_abs (v : EReal) (h : FloatOps.cmpf (F := Ideal) (φ := .f32) .olt (max v (-v)) (Ideal.ofBits .f32 0x7F800000#32) = 1#1) : v ≠ ⊤ ∧ v ≠ ⊥ := by
  rw [wTop] at h
  have h' : max v (-v) < ⊤ := by
    by_contra hn
    have : FloatOps.cmpf (F := Ideal) (φ := .f32) .olt (max v (-v)) ⊤ = BitVec.ofBool (decide (max v (-v) < ⊤)) := rfl
    rw [this, decide_eq_false hn] at h
    exact absurd h (by decide)
  constructor
  · rintro rfl; simp at h'
  · rintro rfl; simp at h'

theorem real_of_pre (a b : FVec Ideal Cert.KernelIdeal.S4x2x192x24x24 .f32)
    (h : letI := preFacts; Cert.Pre_finite.fn (F := Ideal) a b = (fun _ => 1#1)) : Real5 a ∧ Real5 b := by
  have hj : ∀ j, IntOp.andi (FloatOps.cmpf (F := Ideal) (φ := .f32) .olt (max (a j) (-(a j))) (Ideal.ofBits .f32 0x7F800000#32))
      (FloatOps.cmpf (F := Ideal) (φ := .f32) .olt (max (b j) (-(b j))) (Ideal.ofBits .f32 0x7F800000#32)) = 1#1 := fun j => congrFun h j
  have hand : ∀ u v : BitVec 1, IntOp.andi u v = 1#1 → u = 1#1 ∧ v = 1#1 := by decide
  exact ⟨fun j => real_of_abs _ (hand _ _ (hj j)).1, fun j => real_of_abs _ (hand _ _ (hj j)).2⟩

/-- The reals of a flattened map. -/
def realMap (a : FVec Ideal Cert.KernelIdeal.S4x2x192x24x24 .f32) : Map :=
  fun b n c => (Cert.KernelIdeal.Val.blockOf a (ix3 b n c)).toReal

theorem holds_of_real (a : FVec Ideal Cert.KernelIdeal.S4x2x192x24x24 .f32) (h : Real5 a) :
    Cert.KernelIdeal.Val.Holds (Cert.KernelIdeal.Val.blockOf a) (realMap a) := by
  intro b n c
  obtain ⟨j, hj⟩ : ∃ j, Cert.KernelIdeal.Val.blockOf a (ix3 b n c) = a j := ⟨_, rfl⟩
  unfold realMap
  rw [hj, EReal.coe_toReal (h j).1 (h j).2]

theorem block_eq (a : FVec Ideal Cert.KernelIdeal.S4x2x192x24x24 .f32) : Cert.KernelIdeal.Val.blockOf a = Cert.ReferenceIdeal.Val.flat a := rfl

theorem kres_at (a b : FVec Ideal Cert.KernelIdeal.S4x2x192x24x24 .f32) (k : Fin 3) :
    Cert.KernelIdeal.Val.result a b (ix1 k) = Cert.KernelIdeal.Val.outRow a b (ix2 0 ⟨(k : ℕ), by have := k.isLt; omega⟩) := by
  pointwise [Cert.KernelIdeal.Val.result]

theorem result_eq (a b : FVec Ideal Cert.KernelIdeal.S4x2x192x24x24 .f32) (ha : Real5 a) (hb : Real5 b) :
    Cert.KernelIdeal.Val.result a b = Cert.ReferenceIdeal.Val.result a b := by
  have hx := holds_of_real a ha
  have hy := holds_of_real b hb
  have rx : Cert.ReferenceIdeal.Val.Holds (Cert.ReferenceIdeal.Val.flat a) (realMap a) := hx
  have ry : Cert.ReferenceIdeal.Val.Holds (Cert.ReferenceIdeal.Val.flat b) (realMap b) := hy
  funext j
  obtain ⟨k, rfl⟩ : ∃ k : Fin 3, j = ix1 k := ⟨j 0, eq_ix1 j⟩
  rw [kres_at]
  match k with
  | ⟨0, _⟩ => exact (Cert.KernelIdeal.Val.out_0 hx hy).trans (Cert.ReferenceIdeal.Val.res_0 rx ry).symm
  | ⟨1, _⟩ => exact (Cert.KernelIdeal.Val.out_1 hx hy).trans (Cert.ReferenceIdeal.Val.res_1 rx ry).symm
  | ⟨2, _⟩ => exact (Cert.KernelIdeal.Val.out_2 hx hy).trans (Cert.ReferenceIdeal.Val.res_2 rx ry).symm

end Cert.Joint

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernOut
public import proofs.«01_k».proof.Proof.RefRun
public import proofs.«01_k».proof.Proof.Value
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference's run ends with its arguments unchanged. -/
theorem refFrame : Cert.quiescent_ReferenceIdeal (hReferenceIdeal := Cert.ReferenceIdeal.Gen.facts) := by
  intro m ρ _
  hlo_run
  all_goals (first | exact fun _ => ⟨trivial, trivial⟩ | exact Idealize.ShloMosaic.sem_eq_zero_of_no_sems (sig := Cert.ReferenceIdeal.sig) (by decide) _)

/-- On arrays without infinite elements the kernel's three results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Joint.preFacts) := by
  intro m g m' g' hpre hargs
  refine ⟨fun c => Cert.KernelIdeal.Val.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.KernelIdeal.Val.run m g, ?_⟩
  refine θ_run_mono (Cert.ReferenceIdeal.Val.run m' g') ?_
  intro r h c
  obtain ⟨h0, h1, h2⟩ := h c
  obtain ⟨ra, rb⟩ := Cert.Joint.real_of_pre _ _ (hpre c)
  refine ⟨h0.trans ?_, h1, h2⟩
  rw [(hargs c).1, (hargs c).2]
  exact (Cert.Joint.result_eq _ _ ra rb).symm

theorem claim : Cert.Claim := ⟨Cert.Kernel.Gen.facts, Cert.KernelIdeal.Gen.facts, Cert.ReferenceIdeal.Gen.facts, Cert.Joint.preFacts,
  fun m ρ _ => Cert.Kernel.Gen.frame m ρ, fun m ρ _ => Cert.KernelIdeal.Gen.frame m ρ, fun m ρ _ => Cert.KernelIdeal.Gen.frame m ρ,
  refFrame, fun m ρ _ => refFrame m ρ trivial, trivial, algebraic⟩

end Cert.Proof

end
